-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v35_0)) (v1 : (c : Dev Cert.Kernel7Ideal.nD) → Buf (Elt Ideal) ((c.tc : Thread Cert.Kernel7Ideal.nD Cert.Kernel7Ideal.τ).loc Cert.Kernel7Ideal.main_v35_1)) (v2 : (c : Dev Cert.Kernel7Ideal.nD) → Buf (Elt Ideal) ((c.tc : Thread Cert.Kernel7Ideal.nD Cert.Kernel7Ideal.τ).loc Cert.Kernel7Ideal.main_v35_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v35_0) = v0 c
          ∧ r.2.mem ((c.tc : Thread Cert.Kernel7Ideal.nD Cert.Kernel7Ideal.τ).loc Cert.Kernel7Ideal.main_v35_1) = v1 c
          ∧ r.2.mem ((c.tc : Thread Cert.Kernel7Ideal.nD Cert.Kernel7Ideal.τ).loc Cert.Kernel7Ideal.main_v35_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v133) = v0 c
          ∧ r.2.mem ((c.tc : Thread Cert.Reference7Ideal.nD Cert.Reference7Ideal.τ).loc Cert.Reference7Ideal.main_v134) = v1 c
          ∧ r.2.mem ((c.tc : Thread Cert.Reference7Ideal.nD Cert.Reference7Ideal.τ).loc Cert.Reference7Ideal.main_v135) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x4608 : Shape := ⟨2, ![16384, 4608]⟩
abbrev S512x4608 : Shape := ⟨2, ![512, 4608]⟩
abbrev S8 : Shape := ⟨1, ![8]⟩
abbrev S16384x1280 : Shape := ⟨2, ![16384, 1280]⟩
abbrev S20971520 : Shape := ⟨1, ![20971520]⟩
abbrev S512x256 : Shape := ⟨2, ![512, 256]⟩
abbrev S131072 : Shape := ⟨1, ![131072]⟩
abbrev S21102600 : Shape := ⟨1, ![21102600]⟩
abbrev S_ : Shape := ⟨0, ![]⟩

class Facts : Prop where
  slices_S16384x4608_S16384x1280_0_0 : S16384x4608.Slices ![0, 0] S16384x1280
  bitsLt_bf16_f32 : FTy.bits .bf16 < FTy.bits .f32
  shapeCasts_S16384x1280_S20971520 : S16384x1280.ShapeCasts S20971520
  slices_S512x4608_S512x256_0_1024 : S512x4608.Slices ![0, 1024] S512x256
  shapeCasts_S512x256_S131072 : S512x256.ShapeCasts S131072
  concatenates_S20971520_S131072_S8_S21102600_d0 : Shape.Concatenates [S20971520, S131072, S8] S21102600 0
  bcast_S_S21102600 : S_.BroadcastsInDim S21102600 (![] : Fin 0 → Fin S21102600.rank)

variable [Facts]

def fn {F : FTy → Type} [FloatOps F] (main_arg0 : FVec F S16384x4608 .bf16) (main_arg1 : FVec F S512x4608 .bf16) (main_arg2 : FVec F S8 .f32) : IVec S21102600 1 :=
  let main_v0 : FVec F S16384x1280 .bf16 := (extractStridedSlice S16384x1280 ![0, 0] · slices_S16384x4608_S16384x1280_0_0) main_arg0
  let main_v1 : FVec F S16384x1280 .f32 := (extf .f32 · bitsLt_bf16_f32) main_v0
  let main_v2 : FVec F S20971520 .f32 := shapeCast S20971520 main_v1 shapeCasts_S16384x1280_S20971520
  let main_v3 : FVec F S512x256 .bf16 := (extractStridedSlice S512x256 ![0, 1024] · slices_S512x4608_S512x256_0_1024) main_arg1
  let main_v4 : FVec F S512x256 .f32 := (extf .f32 · bitsLt_bf16_f32) main_v3
  let main_v5 : FVec F S131072 .f32 := shapeCast S131072 main_v4 shapeCasts_S512x256_S131072
  let main_v6 : FVec F S21102600 .f32 := concatenate S21102600 0 [⟨S20971520, main_v2⟩, ⟨S131072, main_v5⟩, ⟨S8, main_arg2⟩] concatenates_S20971520_S131072_S8_S21102600_d0
  let main_v7 : FVec F S21102600 .f32 := Host.absf main_v6
  let main_cst : FVec F S_ .f32 := constant S_ .f32 0x7F800000#32
  let main_v8 : FVec F S21102600 .f32 := broadcastInDim S21102600 ![] bcast_S_S21102600 main_cst
  let main_v9 : IVec S21102600 1 := cmpf .olt main_v7 main_v8
  main_v9
-- ==== Kernel.lean ====
abbrev S16384x4608 : Shape := ⟨2, ![16384, 4608]⟩
abbrev S512x4608 : Shape := ⟨2, ![512, 4608]⟩
abbrev S8 : Shape := ⟨1, ![8]⟩
abbrev S16384x1024 : Shape := ⟨2, ![16384, 1024]⟩
abbrev S128x1024 : Shape := ⟨2, ![128, 1024]⟩
abbrev S128x256 : Shape := ⟨2, ![128, 256]⟩
abbrev S256x256 : Shape := ⟨2, ![256, 256]⟩
abbrev S512x384 : Shape := ⟨2, ![512, 384]⟩
abbrev S128x128 : Shape := ⟨2, ![128, 128]⟩
abbrev S384x128 : Shape := ⟨2, ![384, 128]⟩
abbrev S512x128 : Shape := ⟨2, ![512, 128]⟩
abbrev S1 : Shape := ⟨1, ![1]⟩
abbrev S128x1 : Shape := ⟨2, ![128, 1]⟩
abbrev S512x1 : Shape := ⟨2, ![512, 1]⟩
abbrev S256x128 : Shape := ⟨2, ![256, 128]⟩
abbrev S512x256 : Shape := ⟨2, ![512, 256]⟩
abbrev S512 : Shape := ⟨1, ![512]⟩

abbrev nBuf : Space → Nat
  | .hbm => 4
  | .vmem => 20
  | .smem => 1
  | _ => 0

abbrev bufTy : (tb : Table) → Fin (tcTables nBuf tb) → BufTy
  | .hbm, ⟨0, _⟩ => ⟨S16384x4608, .bf16⟩
  | .hbm, ⟨1, _⟩ => ⟨S512x4608, .bf16⟩
  | .hbm, ⟨2, _⟩ => ⟨S8, .f32⟩
  | .hbm, ⟨3, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S128x1024, .bf16⟩
  | .local _ .vmem, ⟨19, _⟩ => ⟨S128x1024, .bf16⟩
  | .local _ .smem, ⟨0, _⟩ => ⟨S8, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c63_i32 : BitVec 32 := 63#32
  let v2 : BitVec 32 := Scalar.minsi v1 c63_i32
  let v3 : BitVec 32 := Scalar.addi v0 v2
  let c4_i32 : BitVec 32 := 4#32
  let c0_i32 : BitVec 32 := 0#32
  ![v3.toNat, c4_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c63_i32 : BitVec 32 := 63#32
  let v2 : BitVec 32 := Scalar.minsi v1 c63_i32
  let v3 : BitVec 32 := Scalar.addi v0 v2
  let c5_i32 : BitVec 32 := 5#32
  let c0_i32 : BitVec 32 := 0#32
  ![v3.toNat, c5_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x4608 : Shape := ⟨2, ![16384, 4608]⟩
abbrev S512x4608 : Shape := ⟨2, ![512, 4608]⟩
abbrev S8 : Shape := ⟨1, ![8]⟩
abbrev S2x8192x4608 : Shape := ⟨3, ![2, 8192, 4608]⟩
abbrev S2x256x4608 : Shape := ⟨3, ![2, 256, 4608]⟩
abbrev S2x8192x1024 : Shape := ⟨3, ![2, 8192, 1024]⟩
abbrev S2x8192x256 : Shape := ⟨3, ![2, 8192, 256]⟩
abbrev S2x256x256 : Shape := ⟨3, ![2, 256, 256]⟩
abbrev S2x8192x8x128 : Shape := ⟨4, ![2, 8192, 8, 128]⟩
abbrev S2x8192x2x128 : Shape := ⟨4, ![2, 8192, 2, 128]⟩
abbrev S2x256x2x128 : Shape := ⟨4, ![2, 256, 2, 128]⟩
abbrev S2x64x128x2x4x128 : Shape := ⟨6, ![2, 64, 128, 2, 4, 128]⟩
abbrev S_ : Shape := ⟨0, ![]⟩
abbrev S2x8448x2x128 : Shape := ⟨4, ![2, 8448, 2, 128]⟩
abbrev S2x66x128x2x128 : Shape := ⟨5, ![2, 66, 128, 2, 128]⟩
abbrev S2x64x128x2x128 : Shape := ⟨5, ![2, 64, 128, 2, 128]⟩
abbrev S2x64x384x2x128 : Shape := ⟨5, ![2, 64, 384, 2, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1 : Shape := ⟨2, ![64, 1]⟩
abbrev S64x384 : Shape := ⟨2, ![64, 384]⟩
abbrev S128x384 : Shape := ⟨2, ![128, 384]⟩
abbrev S1x128x384 : Shape := ⟨3, ![1, 128, 384]⟩
abbrev S64x1x384 : Shape := ⟨3, ![64, 1, 384]⟩
abbrev S64x128x384 : Shape := ⟨3, ![64, 128, 384]⟩
abbrev S2x2x64x384x128x4 : Shape := ⟨6, ![2, 2, 64, 384, 128, 4]⟩
abbrev S2x2x4x64x128x384 : Shape := ⟨6, ![2, 2, 4, 64, 128, 384]⟩
abbrev S2x2x256x64x128x4 : Shape := ⟨6, ![2, 2, 256, 64, 128, 4]⟩
abbrev S2x2x4x64x128x256 : Shape := ⟨6, ![2, 2, 4, 64, 128, 256]⟩
abbrev S1x2x4x1x1x1 : Shape := ⟨6, ![1, 2, 4, 1, 1, 1]⟩
abbrev S2x2x4x64x128x1 : Shape := ⟨6, ![2, 2, 4, 64, 128, 1]⟩
abbrev S2x2x4x64x128x641 : Shape := ⟨6, ![2, 2, 4, 64, 128, 641]⟩
abbrev S2x2x4x64x128 : Shape := ⟨5, ![2, 2, 4, 64, 128]⟩
abbrev S2x64x2x128x4x128 : Shape := ⟨6, ![2, 64, 2, 128, 4, 128]⟩
abbrev S2x2x128x4x64x128 : Shape := ⟨6, ![2, 2, 128, 4, 64, 128]⟩
abbrev S16384x1024 : Shape := ⟨2, ![16384, 1024]⟩

abbrev nBuf : Space → Nat
  | .hbm => 113
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S512x4608, .bf16⟩
  | .hbm, ⟨2, _⟩ => ⟨S8, .f32⟩
  | .hbm, ⟨3, _⟩ => ⟨S16384x4608, .f32⟩
  | .hbm, ⟨4, _⟩ => ⟨S2x8192x4608, .f32⟩
  | .hbm, ⟨5, _⟩ => ⟨S512x4608, .f32⟩
  | .hbm, ⟨6, _⟩ => ⟨S2x256x4608, .f32⟩
  | .hbm, ⟨7, _⟩ => ⟨S2x8192x1024, .f32⟩
  | .hbm, ⟨8, _⟩ => ⟨S2x8192x256, .f32⟩
  | .hbm, ⟨9, _⟩ => ⟨S2x8192x256, .f32⟩
  | .hbm, ⟨10, _⟩ => ⟨S2x256x256, .f32⟩
  | .hbm, ⟨11, _⟩ => ⟨S2x256x256, .f32⟩
  | .hbm, ⟨12, _⟩ => ⟨S2x8192x8x128, .f32⟩
  | .hbm, ⟨13, _⟩ => ⟨S2x8192x2x128, .f32⟩
  | .hbm, ⟨14, _⟩ => ⟨S2x8192x2x128, .f32⟩
  | .hbm, ⟨15, _⟩ => ⟨S2x256x2x128, .f32⟩
  | .hbm, ⟨16, _⟩ => ⟨S2x256x2x128, .f32⟩
  | .hbm, ⟨17, _⟩ => ⟨S2x64x128x2x4x128, .f32⟩
  | .hbm, ⟨18, _⟩ => ⟨S_, .i32⟩
  | .hbm, ⟨19, _⟩ => ⟨S_, .f32⟩
  | .hbm, ⟨20, _⟩ => ⟨S2x8448x2x128, .f32⟩
  | .hbm, ⟨21, _⟩ => ⟨S2x66x128x2x128, .f32⟩
  | .hbm, ⟨22, _⟩ => ⟨S2x64x128x2x128, .f32⟩
  | .hbm, ⟨23, _⟩ => ⟨S2x64x128x2x128, .f32⟩
  | .hbm, ⟨24, _⟩ => ⟨S2x64x128x2x128, .f32⟩
  | .hbm, ⟨25, _⟩ => ⟨S2x64x384x2x128, .f32⟩
  | .hbm, ⟨26, _⟩ => ⟨S_, .i32⟩
  | .hbm, ⟨27, _⟩ => ⟨S_, .f32⟩
  | .hbm, ⟨28, _⟩ => ⟨S2x8448x2x128, .f32⟩
  | .hbm, ⟨29, _⟩ => ⟨S2x66x128x2x128, .f32⟩
  | .hbm, ⟨30, _⟩ => ⟨S2x64x128x2x128, .f32⟩
  | .hbm, ⟨31, _⟩ => ⟨S2x64x128x2x128, .f32⟩
  | .hbm, ⟨32, _⟩ => ⟨S2x64x128x2x128, .f32⟩
  | .hbm, ⟨33, _⟩ => ⟨S2x64x384x2x128, .f32⟩
  | .hbm, ⟨34, _⟩ => ⟨S128, .i32⟩
  | .hbm, ⟨35, _⟩ => ⟨S128x1, .i32⟩
  | .hbm, ⟨36, _⟩ => ⟨S384, .i32⟩
  | .hbm, ⟨37, _⟩ => ⟨S1x384, .i32⟩
  | .hbm, ⟨38, _⟩ => ⟨S64, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S64x384, .i32⟩
  | .hbm, ⟨47, _⟩ => ⟨S64x384, .i32⟩
  | .hbm, ⟨48, _⟩ => ⟨S64x384, .i32⟩
  | .hbm, ⟨49, _⟩ => ⟨S_, .i32⟩
  | .hbm, ⟨50, _⟩ => ⟨S1x384, .i32⟩
  | .hbm, ⟨51, _⟩ => ⟨S1x384, .i32⟩
  | .hbm, ⟨52, _⟩ => ⟨S128x384, .i32⟩
  | .hbm, ⟨53, _⟩ => ⟨S128x384, .i32⟩
  | .hbm, ⟨54, _⟩ => ⟨S128x384, .i32⟩
  | .hbm, ⟨55, _⟩ => ⟨S128x384, .i32⟩
  | .hbm, ⟨56, _⟩ => ⟨S_, .i32⟩
  | .hbm, ⟨57, _⟩ => ⟨S128x384, .i32⟩
  | .hbm, ⟨58, _⟩ => ⟨S128x384, .i1⟩
  | .hbm, ⟨59, _⟩ => ⟨S1x128x384, .i1⟩
  | .hbm, ⟨60, _⟩ => ⟨S_, .i32⟩
  | .hbm, ⟨61, _⟩ => ⟨S64x384, .i32⟩
  | .hbm, ⟨62, _⟩ => ⟨S64x384, .i1⟩
  | .hbm, ⟨63, _⟩ => ⟨S_, .i32⟩
  | .hbm, ⟨64, _⟩ => ⟨S64x384, .i32⟩
  | .hbm, ⟨65, _⟩ => ⟨S64x384, .i1⟩
  | .hbm, ⟨66, _⟩ => ⟨S64x384, .i1⟩
  | .hbm, ⟨67, _⟩ => ⟨S64x1x384, .i1⟩
  | .hbm, ⟨68, _⟩ => ⟨S64x128x384, .i1⟩
  | .hbm, ⟨69, _⟩ => ⟨S64x128x384, .i1⟩
  | .hbm, ⟨70, _⟩ => ⟨S64x128x384, .i1⟩
  | .hbm, ⟨71, _⟩ => ⟨S2x2x64x384x128x4, .f32⟩
  | .hbm, ⟨72, _⟩ => ⟨S2x2x4x64x128x384, .f32⟩
  | .hbm, ⟨73, _⟩ => ⟨S_, .f32⟩
  | .hbm, ⟨74, _⟩ => ⟨S2x2x4x64x128x384, .f32⟩
  | .hbm, ⟨75, _⟩ => ⟨S2x2x4x64x128x384, .f32⟩
  | .hbm, ⟨76, _⟩ => ⟨S_, .f32⟩
  | .hbm, ⟨77, _⟩ => ⟨S_, .f32⟩
  | .hbm, ⟨78, _⟩ => ⟨S2x2x4x64x128x384, .i1⟩
  | .hbm, ⟨79, _⟩ => ⟨S2x2x4x64x128x384, .f32⟩
  | .hbm, ⟨80, _⟩ => ⟨S2x2x4x64x128x384, .f32⟩
  | .hbm, ⟨81, _⟩ => ⟨S2x2x256x64x128x4, .f32⟩
  | .hbm, ⟨82, _⟩ => ⟨S2x2x4x64x128x256, .f32⟩
  | .hbm, ⟨83, _⟩ => ⟨S_, .f32⟩
  | .hbm, ⟨84, _⟩ => ⟨S2x2x4x64x128x256, .f32⟩
  | .hbm, ⟨85, _⟩ => ⟨S2x2x4x64x128x256, .f32⟩
  | .hbm, ⟨86, _⟩ => ⟨S1x2x4x1x1x1, .f32⟩
  | .hbm, ⟨87, _⟩ => ⟨S2x2x4x64x128x1, .f32⟩
  | .hbm, ⟨88, _⟩ => ⟨S2x2x4x64x128x641, .f32⟩
  | .hbm, ⟨89, _⟩ => ⟨S_, .f32⟩
  | .hbm, ⟨90, _⟩ => ⟨S2x2x4x64x128, .f32⟩
  | .hbm, ⟨91, _⟩ => ⟨S_, .f32⟩
  | .hbm, ⟨92, _⟩ => ⟨S2x2x4x64x128, .f32⟩
  | .hbm, ⟨93, _⟩ => ⟨S2x2x4x64x128, .f32⟩
  | .hbm, ⟨94, _⟩ => ⟨S2x2x4x64x128x1, .f32⟩
  | .hbm, ⟨95, _⟩ => ⟨S2x2x4x64x128x641, .f32⟩
  | .hbm, ⟨96, _⟩ => ⟨S2x2x4x64x128x641, .f32⟩
  | .hbm, ⟨97, _⟩ => ⟨S2x2x4x64x128x641, .f32⟩
  | .hbm, ⟨98, _⟩ => ⟨S_, .f32⟩
  | .hbm, ⟨99, _⟩ => ⟨S2x2x4x64x128, .f32⟩
  | .hbm, ⟨100, _⟩ => ⟨S2x2x4x64x128x1, .f32⟩
  | .hbm, ⟨101, _⟩ => ⟨S2x2x4x64x128x641, .f32⟩
  | .hbm, ⟨102, _⟩ => ⟨S2x2x4x64x128x641, .f32⟩
  | .hbm, ⟨103, _⟩ => ⟨S2x2x4x64x128x384, .f32⟩
  | .hbm, ⟨104, _⟩ => ⟨S2x64x2x128x4x128, .f32⟩
  | .hbm, ⟨105, _⟩ => ⟨S2x64x128x2x4x128, .f32⟩
  | .hbm, ⟨106, _⟩ => ⟨S2x2x4x64x128x256, .f32⟩
  | .hbm, ⟨107, _⟩ => ⟨S2x2x128x4x64x128, .f32⟩
  | .hbm, ⟨108, _⟩ => ⟨S2x64x128x2x4x128, .f32⟩
  | .hbm, ⟨109, _⟩ => ⟨S2x64x128x2x4x128, .f32⟩
  | .hbm, ⟨110, _⟩ => ⟨S2x8192x1024, .f32⟩
  | .hbm, ⟨111, _⟩ => ⟨S16384x1024, .f32⟩
  | .hbm, ⟨112, _⟩ => ⟨S16384x1024, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_1 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]
-- ==== Kernel2.lean ====
abbrev S16384x4096 : Shape := ⟨2, ![16384, 4096]⟩
abbrev S16384x1024 : Shape := ⟨2, ![16384, 1024]⟩
abbrev S4096x23040 : Shape := ⟨2, ![4096, 23040]⟩
abbrev S4x1024x4096 : Shape := ⟨3, ![4, 1024, 4096]⟩
abbrev S4096x16384 : Shape := ⟨2, ![4096, 16384]⟩
abbrev S512x4096 : Shape := ⟨2, ![512, 4096]⟩
abbrev S512x1024 : Shape := ⟨2, ![512, 1024]⟩
abbrev S4096x256 : Shape := ⟨2, ![4096, 256]⟩
abbrev S4x1024x256 : Shape := ⟨3, ![4, 1024, 256]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 11
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S4096x23040, .f32⟩
  | .hbm, ⟨6, _⟩ => ⟨S4x1024x4096, .f32⟩
  | .hbm, ⟨7, _⟩ => ⟨S4096x16384, .f32⟩
  | .hbm, ⟨8, _⟩ => ⟨S4096x16384, .bf16⟩
  | .hbm, ⟨9, _⟩ => ⟨S4x1024x4096, .bf16⟩
  | .hbm, ⟨10, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4x1024x256, .bf16⟩
  | .local _ .vmem, ⟨19, _⟩ => ⟨S4x1024x256, .bf16⟩
  | .local _ .vmem, ⟨20, _⟩ => ⟨S512x256, .bf16⟩
  | .local _ .vmem, ⟨21, _⟩ => ⟨S512x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16384x4096 : Shape := ⟨2, ![16384, 4096]⟩
abbrev S16384x1024 : Shape := ⟨2, ![16384, 1024]⟩
abbrev S4096x23040 : Shape := ⟨2, ![4096, 23040]⟩
abbrev S4x1024x4096 : Shape := ⟨3, ![4, 1024, 4096]⟩
abbrev S16384x23040 : Shape := ⟨2, ![16384, 23040]⟩
abbrev S16384x16384 : Shape := ⟨2, ![16384, 16384]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 70
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S4096x23040, .f32⟩
  | .hbm, ⟨6, _⟩ => ⟨S4x1024x4096, .f32⟩
  | .hbm, ⟨7, _⟩ => ⟨S16384x4096, .f32⟩
  | .hbm, ⟨8, _⟩ => ⟨S16384x23040, .f32⟩
  | .hbm, ⟨9, _⟩ => ⟨S16384x16384, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S1x1024x4096, .f32⟩
  | .hbm, ⟨24, _⟩ => ⟨S1024x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S1x1024x4096, .f32⟩
  | .hbm, ⟨37, _⟩ => ⟨S1024x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S1x1024x4096, .f32⟩
  | .hbm, ⟨51, _⟩ => ⟨S1024x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S_, .f32⟩
  | .hbm, ⟨62, _⟩ => ⟨S16384x4096, .f32⟩
  | .hbm, ⟨63, _⟩ => ⟨S16384x4096, .f32⟩
  | .hbm, ⟨64, _⟩ => ⟨S1x1024x4096, .f32⟩
  | .hbm, ⟨65, _⟩ => ⟨S1024x4096, .f32⟩
  | .hbm, ⟨66, _⟩ => ⟨S16384x4096, .f32⟩
  | .hbm, ⟨67, _⟩ => ⟨S16384x4096, .f32⟩
  | .hbm, ⟨68, _⟩ => ⟨S16384x4096, .f32⟩
  | .hbm, ⟨69, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel3.lean ====
abbrev S16384x4096 : Shape := ⟨2, ![16384, 4096]⟩
abbrev S4096x11008 : Shape := ⟨2, ![4096, 11008]⟩
abbrev S3x11008 : Shape := ⟨2, ![3, 11008]⟩
abbrev S11008 : Shape := ⟨1, ![11008]⟩
abbrev S1x11008 : Shape := ⟨2, ![1, 11008]⟩
abbrev S16384x11008 : Shape := ⟨2, ![16384, 11008]⟩
abbrev S16x4096 : Shape := ⟨2, ![16, 4096]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S1056x4096 : Shape := ⟨2, ![1056, 4096]⟩
abbrev S1056x256 : Shape := ⟨2, ![1056, 256]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S3x11008, .f32⟩
  | .hbm, ⟨4, _⟩ => ⟨S11008, .f32⟩
  | .hbm, ⟨5, _⟩ => ⟨S4096x11008, .bf16⟩
  | .hbm, ⟨6, _⟩ => ⟨S4096x11008, .bf16⟩
  | .hbm, ⟨7, _⟩ => ⟨S1x11008, .f32⟩
  | .hbm, ⟨8, _⟩ => ⟨S16384x11008, .bf16⟩
  | .local _ .vmem, ⟨0, _⟩ => ⟨S16x4096, .bf16⟩
  | .local _ .vmem, ⟨1, _⟩ => ⟨S16x4096, .bf16⟩
  | .local _ .vmem, ⟨2, _⟩ => ⟨S1024x4096, .bf16⟩
  | .local _ .vmem, ⟨3, _⟩ => ⟨S1024x4096, .bf16⟩
  | .local _ .vmem, ⟨4, _⟩ => ⟨S16x4096, .bf16⟩
  | .local _ .vmem, ⟨5, _⟩ => ⟨S16x4096, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | .local _ .vmem, ⟨16, _⟩ => ⟨S1056x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x4096 : Shape := ⟨2, ![16384, 4096]⟩
abbrev S4096x11008 : Shape := ⟨2, ![4096, 11008]⟩
abbrev S3x11008 : Shape := ⟨2, ![3, 11008]⟩
abbrev S11008 : Shape := ⟨1, ![11008]⟩
abbrev S2x8192x4096 : Shape := ⟨3, ![2, 8192, 4096]⟩
abbrev S2x8192x11008 : Shape := ⟨3, ![2, 8192, 11008]⟩
abbrev S2x1x11008 : Shape := ⟨3, ![2, 1, 11008]⟩
abbrev S_ : Shape := ⟨0, ![]⟩
abbrev S2x8191x11008 : Shape := ⟨3, ![2, 8191, 11008]⟩
abbrev S1x11008 : Shape := ⟨2, ![1, 11008]⟩
abbrev S1x1x11008 : Shape := ⟨3, ![1, 1, 11008]⟩
abbrev S16384x11008 : Shape := ⟨2, ![16384, 11008]⟩

abbrev nBuf : Space → Nat
  | .hbm => 48
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S3x11008, .f32⟩
  | .hbm, ⟨4, _⟩ => ⟨S11008, .f32⟩
  | .hbm, ⟨5, _⟩ => ⟨S16384x4096, .f32⟩
  | .hbm, ⟨6, _⟩ => ⟨S2x8192x4096, .f32⟩
  | .hbm, ⟨7, _⟩ => ⟨S2x8192x11008, .f32⟩
  | .hbm, ⟨8, _⟩ => ⟨S2x1x11008, .f32⟩
  | .hbm, ⟨9, _⟩ => ⟨S_, .f32⟩
  | .hbm, ⟨10, _⟩ => ⟨S2x1x11008, .f32⟩
  | .hbm, ⟨11, _⟩ => ⟨S2x8191x11008, .f32⟩
  | .hbm, ⟨12, _⟩ => ⟨S2x8192x11008, .f32⟩
  | .hbm, ⟨13, _⟩ => ⟨S1x11008, .f32⟩
  | .hbm, ⟨14, _⟩ => ⟨S11008, .f32⟩
  | .hbm, ⟨15, _⟩ => ⟨S1x1x11008, .f32⟩
  | .hbm, ⟨16, _⟩ => ⟨S2x8192x11008, .f32⟩
  | .hbm, ⟨17, _⟩ => ⟨S2x8192x11008, .f32⟩
  | .hbm, ⟨18, _⟩ => ⟨S1x11008, .f32⟩
  | .hbm, ⟨19, _⟩ => ⟨S11008, .f32⟩
  | .hbm, ⟨20, _⟩ => ⟨S1x1x11008, .f32⟩
  | .hbm, ⟨21, _⟩ => ⟨S2x8192x11008, .f32⟩
  | .hbm, ⟨22, _⟩ => ⟨S2x8192x11008, .f32⟩
  | .hbm, ⟨23, _⟩ => ⟨S2x8192x11008, .f32⟩
  | .hbm, ⟨24, _⟩ => ⟨S2x8191x11008, .f32⟩
  | .hbm, ⟨25, _⟩ => ⟨S2x8192x11008, .f32⟩
  | .hbm, ⟨26, _⟩ => ⟨S1x11008, .f32⟩
  | .hbm, ⟨27, _⟩ => ⟨S11008, .f32⟩
  | .hbm, ⟨28, _⟩ => ⟨S1x1x11008, .f32⟩
  | .hbm, ⟨29, _⟩ => ⟨S2x8192x11008, .f32⟩
  | .hbm, ⟨30, _⟩ => ⟨S2x8192x11008, .f32⟩
  | .hbm, ⟨31, _⟩ => ⟨S2x8192x11008, .f32⟩
  | .hbm, ⟨32, _⟩ => ⟨S1x1x11008, .f32⟩
  | .hbm, ⟨33, _⟩ => ⟨S2x8192x11008, .f32⟩
  | .hbm, ⟨34, _⟩ => ⟨S2x8192x11008, .f32⟩
  | .hbm, ⟨35, _⟩ => ⟨S2x8192x11008, .f32⟩
  | .hbm, ⟨36, _⟩ => ⟨S2x8192x11008, .f32⟩
  | .hbm, ⟨37, _⟩ => ⟨S_, .f32⟩
  | .hbm, ⟨38, _⟩ => ⟨S2x8192x11008, .f32⟩
  | .hbm, ⟨39, _⟩ => ⟨S2x8192x11008, .f32⟩
  | .hbm, ⟨40, _⟩ => ⟨S_, .f32⟩
  | .hbm, ⟨41, _⟩ => ⟨S2x8192x11008, .f32⟩
  | .hbm, ⟨42, _⟩ => ⟨S2x8192x11008, .f32⟩
  | .hbm, ⟨43, _⟩ => ⟨S2x8192x11008, .f32⟩
  | .hbm, ⟨44, _⟩ => ⟨S2x8192x11008, .f32⟩
  | .hbm, ⟨45, _⟩ => ⟨S2x8192x11008, .f32⟩
  | .hbm, ⟨46, _⟩ => ⟨S16384x11008, .f32⟩
  | .hbm, ⟨47, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S8x24576 : Shape := ⟨2, ![8, 24576]⟩
abbrev S48x1x4096 : Shape := ⟨3, ![48, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S8x24576, .f32⟩
  | .hbm, ⟨4, _⟩ => ⟨S48x1x4096, .f32⟩
  | .hbm, ⟨5, _⟩ => ⟨S4096x4096, .bf16⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x4096 : Shape := ⟨2, ![16384, 4096]⟩
abbrev S4096x4096 : Shape := ⟨2, ![4096, 4096]⟩
abbrev S8x24576 : Shape := ⟨2, ![8, 24576]⟩
abbrev S2x24576 : Shape := ⟨2, ![2, 24576]⟩
abbrev S2x1x24576 : Shape := ⟨3, ![2, 1, 24576]⟩
abbrev S2x1x4096 : Shape := ⟨3, ![2, 1, 4096]⟩
abbrev S2x8192x4096 : Shape := ⟨3, ![2, 8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S8x24576, .f32⟩
  | .hbm, ⟨4, _⟩ => ⟨S2x24576, .f32⟩
  | .hbm, ⟨5, _⟩ => ⟨S2x1x24576, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S16384x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S2x8192x4096, .f32⟩
  | .hbm, ⟨19, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel5.lean ====
abbrev S16384x11008 : Shape := ⟨2, ![16384, 11008]⟩
abbrev S11008x4096 : Shape := ⟨2, ![11008, 4096]⟩
abbrev S16384x4096 : Shape := ⟨2, ![16384, 4096]⟩
abbrev S8x24576 : Shape := ⟨2, ![8, 24576]⟩
abbrev S48x1x4096 : Shape := ⟨3, ![48, 1, 4096]⟩
abbrev S512x11008 : Shape := ⟨2, ![512, 11008]⟩
abbrev S11008x256 : Shape := ⟨2, ![11008, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S8x24576, .f32⟩
  | .hbm, ⟨4, _⟩ => ⟨S48x1x4096, .f32⟩
  | .hbm, ⟨5, _⟩ => ⟨S11008x4096, .bf16⟩
  | .hbm, ⟨6, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S1x1x256, .f32⟩
  | .local _ .vmem, ⟨7, _⟩ => ⟨S1x1x256, .f32⟩
  | .local _ .vmem, ⟨8, _⟩ => ⟨S512x256, .f32⟩
  | .local _ .vmem, ⟨9, _⟩ => ⟨S512x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x11008 : Shape := ⟨2, ![16384, 11008]⟩
abbrev S11008x4096 : Shape := ⟨2, ![11008, 4096]⟩
abbrev S16384x4096 : Shape := ⟨2, ![16384, 4096]⟩
abbrev S8x24576 : Shape := ⟨2, ![8, 24576]⟩
abbrev S2x24576 : Shape := ⟨2, ![2, 24576]⟩
abbrev S2x1x24576 : Shape := ⟨3, ![2, 1, 24576]⟩
abbrev S2x1x4096 : Shape := ⟨3, ![2, 1, 4096]⟩
abbrev S2x8192x11008 : Shape := ⟨3, ![2, 8192, 11008]⟩
abbrev S2x8192x4096 : Shape := ⟨3, ![2, 8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S8x24576, .f32⟩
  | .hbm, ⟨4, _⟩ => ⟨S2x24576, .f32⟩
  | .hbm, ⟨5, _⟩ => ⟨S2x1x24576, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S16384x11008, .f32⟩
  | .hbm, ⟨13, _⟩ => ⟨S2x8192x11008, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S2x8192x4096, .f32⟩
  | .hbm, ⟨19, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x8192x4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S1x1x4096, .f32⟩
  | .hbm, ⟨16, _⟩ => ⟨S2x8192x4096, .f32⟩
  | .hbm, ⟨17, _⟩ => ⟨S2x8192x4096, .f32⟩
  | .hbm, ⟨18, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S16384x4096 : Shape := ⟨2, ![16384, 4096]⟩
abbrev S4096x23040 : Shape := ⟨2, ![4096, 23040]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S4096x6656 : Shape := ⟨2, ![4096, 6656]⟩
abbrev S16384x4608 : Shape := ⟨2, ![16384, 4608]⟩
abbrev S16384x1024 : Shape := ⟨2, ![16384, 1024]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 82
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x23040, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S_, .i1⟩
  | .hbm, ⟨59, _⟩ => ⟨S8192, .i1⟩
  | .hbm, ⟨60, _⟩ => ⟨S8192, .i1⟩
  | .hbm, ⟨61, _⟩ => ⟨S8192, .i1⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x1, .f32⟩
  | .hbm, ⟨67, _⟩ => ⟨S1x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x128, .f32⟩
  | .hbm, ⟨74, _⟩ => ⟨S8192x32, .f32⟩
  | .hbm, ⟨75, _⟩ => ⟨S8192x32, .f32⟩
  | .hbm, ⟨76, _⟩ => ⟨S8192x128, .f32⟩
  | .hbm, ⟨77, _⟩ => ⟨S4096x6656, .f32⟩
  | .hbm, ⟨78, _⟩ => ⟨S4096x6656, .bf16⟩
  | .hbm, ⟨79, _⟩ => ⟨S16384x4608, .bf16⟩
  | .hbm, ⟨80, _⟩ => ⟨S16384x1024, .f32⟩
  | .hbm, ⟨81, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35_0 : Ref sig .tc := ⟨.hbm, 79, rfl⟩
abbrev main_v35_1 : Ref sig .tc := ⟨.hbm, 80, rfl⟩
abbrev main_v35_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 13], ![false, false]⟩

def k0_cond1 (i : grid0.Coords) : BitVec 1 :=
  let arg1 : BitVec 32 := BitVec.ofNat 32 (i 1).val
  let c512_i32 : BitVec 32 := 512#32
  let v4 : BitVec 32 := Scalar.muli arg1 c512_i32
  let c1280_i32 : BitVec 32 := 1280#32
  let v5 : BitVec 1 := Scalar.cmpi .slt v4 c1280_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c512_i32_3 : BitVec 32 := 512#32
  let v8 : BitVec 32 := Scalar.muli arg1 c512_i32_3
  let c1280_i32_4 : BitVec 32 := 1280#32
  let v9 : BitVec 1 := Scalar.cmpi .sge v8 c1280_i32_4
  let c9_i32 : BitVec 32 := 9#32
  let v10 : BitVec 1 := Scalar.cmpi .slt arg1 c9_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c9_i32_6 : BitVec 32 := 9#32
  let v14 : BitVec 1 := Scalar.cmpi .sge arg1 c9_i32_6
  let c11_i32 : BitVec 32 := 11#32
  let v15 : BitVec 1 := Scalar.cmpi .slt arg1 c11_i32
  let v16 : BitVec 1 := Scalar.andi v14 v15
  let v17 : BitVec 32 := Scalar.extui v16
  let c0_i32_7 : BitVec 32 := 0#32
  let v18 : BitVec 1 := Scalar.cmpi .ne v17 c0_i32_7
  v18

def k0_cond4 (i : grid0.Coords) : BitVec 1 :=
  let arg1 : BitVec 32 := BitVec.ofNat 32 (i 1).val
  let c11_i32_8 : BitVec 32 := 11#32
  let v19 : BitVec 1 := Scalar.cmpi .sge arg1 c11_i32_8
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![arg0.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S16384x4096 : Shape := ⟨2, ![16384, 4096]⟩
abbrev S4096x23040 : Shape := ⟨2, ![4096, 23040]⟩
abbrev S8192 : Shape := ⟨1, ![8192]⟩
abbrev S_ : Shape := ⟨0, ![]⟩
abbrev S16384x23040 : Shape := ⟨2, ![16384, 23040]⟩
abbrev S16384x6656 : Shape := ⟨2, ![16384, 6656]⟩
abbrev S2x8192x6656 : Shape := ⟨3, ![2, 8192, 6656]⟩
abbrev S2x8192x1024 : Shape := ⟨3, ![2, 8192, 1024]⟩
abbrev S2x8192x256 : Shape := ⟨3, ![2, 8192, 256]⟩
abbrev S2x8192x8x128 : Shape := ⟨4, ![2, 8192, 8, 128]⟩
abbrev S32 : Shape := ⟨1, ![32]⟩
abbrev S2x8192x8x64 : Shape := ⟨4, ![2, 8192, 8, 64]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S16384x1024 : Shape := ⟨2, ![16384, 1024]⟩
abbrev S2x8192x2x128 : Shape := ⟨4, ![2, 8192, 2, 128]⟩
abbrev S2x8192x2x64 : Shape := ⟨4, ![2, 8192, 2, 64]⟩
abbrev S2x8192x2x32 : Shape := ⟨4, ![2, 8192, 2, 32]⟩
abbrev S16384x256 : Shape := ⟨2, ![16384, 256]⟩
abbrev S16384x3328 : Shape := ⟨2, ![16384, 3328]⟩
abbrev S16384x4608 : Shape := ⟨2, ![16384, 4608]⟩

abbrev nBuf : Space → Nat
  | .hbm => 184
  | .vmem => 0
  | .smem => 0
  | _ => 0

abbrev hbmTy0_0 (i : Nat) : BufTy := match i % 128 with
  | 0 => ⟨S16384x4096, .bf16⟩
  | 1 => ⟨S4096x23040, .f32⟩
  | 2 => ⟨S8192, .i32⟩
  | 3 => ⟨S_, .i32⟩
  | 4 => ⟨S_, .i32⟩
  | 5 => ⟨S8192, .i32⟩
  | 6 => ⟨S8192, .i32⟩
  | 7 => ⟨S8192, .i32⟩
  | 8 => ⟨S_, .i32⟩
  | 9 => ⟨S8192, .i32⟩
  | 10 => ⟨S8192, .i1⟩
  | 11 => ⟨S8192, .i32⟩
  | 12 => ⟨S8192, .i32⟩
  | 13 => ⟨S_, .i32⟩
  | 14 => ⟨S8192, .i32⟩
  | 15 => ⟨S8192, .i1⟩
  | 16 => ⟨S8192, .i1⟩
  | 17 => ⟨S_, .i32⟩
  | 18 => ⟨S8192, .i32⟩
  | 19 => ⟨S8192, .i32⟩
  | 20 => ⟨S8192, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i1⟩
  | 35 => ⟨S_, .i32⟩
  | 36 => ⟨S_, .i1⟩
  | 37 => ⟨S8192, .i1⟩
  | 38 => ⟨S8192, .i1⟩
  | 39 => ⟨S8192, .i1⟩
  | 40 => ⟨S8192, .i32⟩
  | 41 => ⟨S8192, .i32⟩
  | 42 => ⟨S8192, .i32⟩
  | 43 => ⟨S16384x4096, .f32⟩
  | 44 => ⟨S16384x23040, .f32⟩
  | 45 => ⟨S16384x6656, .f32⟩
  | 46 => ⟨S2x8192x6656, .f32⟩
  | 47 => ⟨S2x8192x1024, .f32⟩
  | 48 => ⟨S2x8192x256, .f32⟩
  | 49 => ⟨S2x8192x8x128, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S2x8192x8x64, .f32⟩
  | 65 => ⟨S8192, .f32⟩
  | 66 => ⟨S8192x1, .f32⟩
  | 67 => ⟨S1x32, .f32⟩
  | 68 => ⟨S8192x32, .f32⟩
  | 69 => ⟨S8192x32, .f32⟩
  | 70 => ⟨S8192x32, .f32⟩
  | 71 => ⟨S8192x32, .f32⟩
  | 72 => ⟨S1x8192x1x32, .f32⟩
  | 73 => ⟨S8192x32, .f32⟩
  | 74 => ⟨S1x8192x1x32, .f32⟩
  | 75 => ⟨S2x8192x8x32, .f32⟩
  | 76 => ⟨S2x8192x8x32, .f32⟩
  | 77 => ⟨S2x8192x8x32, .f32⟩
  | 78 => ⟨S2x8192x8x32, .f32⟩
  | 79 => ⟨S2x8192x8x32, .f32⟩
  | 80 => ⟨S2x8192x8x32, .f32⟩
  | 81 => ⟨S2x8192x8x32, .f32⟩
  | 82 => ⟨S2x8192x8x32, .f32⟩
  | 83 => ⟨S2x8192x8x32, .f32⟩
  | 84 => ⟨S2x8192x8x32, .f32⟩
  | 85 => ⟨S2x8192x8x32, .f32⟩
  | 86 => ⟨S2x8192x8x32, .f32⟩
  | 87 => ⟨S2x8192x8x64, .f32⟩
  | 88 => ⟨S2x8192x8x64, .f32⟩
  | 89 => ⟨S8192, .f32⟩
  | 90 => ⟨S8192x1, .f32⟩
  | 91 => ⟨S1x32, .f32⟩
  | 92 => ⟨S8192x32, .f32⟩
  | 93 => ⟨S8192x32, .f32⟩
  | 94 => ⟨S8192x32, .f32⟩
  | 95 => ⟨S8192x32, .f32⟩
  | 96 => ⟨S1x8192x1x32, .f32⟩
  | 97 => ⟨S8192x32, .f32⟩
  | 98 => ⟨S1x8192x1x32, .f32⟩
  | 99 => ⟨S2x8192x8x32, .f32⟩
  | 100 => ⟨S2x8192x8x32, .f32⟩
  | 101 => ⟨S2x8192x8x32, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x32, .f32⟩
  | 107 => ⟨S2x8192x8x32, .f32⟩
  | 108 => ⟨S2x8192x8x32, .f32⟩
  | 109 => ⟨S2x8192x8x32, .f32⟩
  | 110 => ⟨S2x8192x8x32, .f32⟩
  | 111 => ⟨S2x8192x8x64, .f32⟩
  | 112 => ⟨S2x8192x8x128, .f32⟩
  | 113 => ⟨S16384x1024, .f32⟩
  | 114 => ⟨S2x8192x2x128, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S16384x4096, .bf16⟩

abbrev hbmTy0_1 (i : Nat) : BufTy := match i % 128 with
  | 0 => ⟨S32, .f32⟩
  | 1 => ⟨S2x8192x2x64, .f32⟩
  | 2 => ⟨S8192, .f32⟩
  | 3 => ⟨S8192x1, .f32⟩
  | 4 => ⟨S1x32, .f32⟩
  | 5 => ⟨S8192x32, .f32⟩
  | 6 => ⟨S8192x32, .f32⟩
  | 7 => ⟨S8192x32, .f32⟩
  | 8 => ⟨S8192x32, .f32⟩
  | 9 => ⟨S1x8192x1x32, .f32⟩
  | 10 => ⟨S8192x32, .f32⟩
  | 11 => ⟨S1x8192x1x32, .f32⟩
  | 12 => ⟨S2x8192x2x32, .f32⟩
  | 13 => ⟨S2x8192x2x32, .f32⟩
  | 14 => ⟨S2x8192x2x32, .f32⟩
  | 15 => ⟨S2x8192x2x32, .f32⟩
  | 16 => ⟨S2x8192x2x32, .f32⟩
  | 17 => ⟨S2x8192x2x32, .f32⟩
  | 18 => ⟨S2x8192x2x32, .f32⟩
  | 19 => ⟨S2x8192x2x32, .f32⟩
  | 20 => ⟨S2x8192x2x32, .f32⟩
  | 21 => ⟨S2x8192x2x32, .f32⟩
  | 22 => ⟨S2x8192x2x32, .f32⟩
  | 23 => ⟨S2x8192x2x32, .f32⟩
  | 24 => ⟨S2x8192x2x64, .f32⟩
  | 25 => ⟨S2x8192x2x64, .f32⟩
  | 26 => ⟨S8192, .f32⟩
  | 27 => ⟨S8192x1, .f32⟩
  | 28 => ⟨S1x32, .f32⟩
  | 29 => ⟨S8192x32, .f32⟩
  | 30 => ⟨S8192x32, .f32⟩
  | 31 => ⟨S8192x32, .f32⟩
  | 32 => ⟨S8192x32, .f32⟩
  | 33 => ⟨S1x8192x1x32, .f32⟩
  | 34 => ⟨S8192x32, .f32⟩
  | 35 => ⟨S1x8192x1x32, .f32⟩
  | 36 => ⟨S2x8192x2x32, .f32⟩
  | 37 => ⟨S2x8192x2x32, .f32⟩
  | 38 => ⟨S2x8192x2x32, .f32⟩
  | 39 => ⟨S2x8192x2x32, .f32⟩
  | 40 => ⟨S2x8192x2x32, .f32⟩
  | 41 => ⟨S2x8192x2x32, .f32⟩
  | 42 => ⟨S2x8192x2x32, .f32⟩
  | 43 => ⟨S2x8192x2x32, .f32⟩
  | 44 => ⟨S2x8192x2x32, .f32⟩
  | 45 => ⟨S2x8192x2x32, .f32⟩
  | 46 => ⟨S2x8192x2x32, .f32⟩
  | 47 => ⟨S2x8192x2x32, .f32⟩
  | 48 => ⟨S2x8192x2x64, .f32⟩
  | 49 => ⟨S2x8192x2x128, .f32⟩
  | 50 => ⟨S16384x256, .f32⟩
  | 51 => ⟨S16384x3328, .f32⟩
  | 52 => ⟨S16384x4608, .f32⟩
  | 53 => ⟨S16384x4608, .bf16⟩
  | 54 => ⟨S16384x1024, .f32⟩
  | 55 => ⟨S16384x1024, .f32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst : Ref sig .tc := ⟨.hbm, 51, rfl⟩
abbrev main_v11 : Ref sig .tc := ⟨.hbm, 52, rfl⟩
abbrev main_v12 : Ref sig .tc := ⟨.hbm, 53, rfl⟩
abbrev main_cst_1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_2 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_4 : Ref sig .tc := ⟨.hbm, 116, rfl⟩
abbrev main_v72 : Ref sig .tc := ⟨.hbm, 117, rfl⟩
abbrev main_v73 : Ref sig .tc := ⟨.hbm, 118, rfl⟩
abbrev main_cst_5 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_6 : Ref sig .tc := ⟨.hbm, 123, rfl⟩
abbrev main_v77 : Ref sig .tc := ⟨.hbm, 124, rfl⟩
abbrev main_v78 : Ref sig .tc := ⟨.hbm, 125, rfl⟩
abbrev main_cst_7 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩

abbrev nD : Nat := 1
abbrev τ : Topo := Topo.v7x

variable {F : FTy → Type} [FloatOps F]
-- ==== Proof.InProjPlain.lean ====
/- The input projection before idealization: it runs and keeps its arguments, whatever it leaves in its outputs. -/
module

public import proofs.«01_k».proof.Proof.Gen.Kernel7.Frame
public import proofs.«01_k».proof.Proof.Gen.Kernel7.Launch
public import proofs.«01_k».proof.Proof.Gen.Kernel7.Skeleton
public import proofs.«01_k».proof.Proof.Gen.Kernel7.Points
public import Idealize.ShloMosaic.Lib.Claim
public import Idealize.ShloMosaic.Lib.Pipeline.FrameBody
public import Idealize.ShloMosaic.Lib.Tactic

@[expose] public section

set_option maxRecDepth 16384

noncomputable section

namespace Cert.InProjPlain

open Cert.Kernel7 Cert.Kernel7.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body, whichever of its branches are taken, leaves its inputs as they were. -/
theorem run (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole)
    (x0 : Vec F S1024x4096 .bf16) (x1 : Vec F S4096x512 .bf16) (x2 x3 : Vec F S1024x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  by_cases hc0 : k0_cond1 i = 1#1 <;> by_cases hc1 : k0_cond2 i = 1#1 <;> by_cases hc2 : k0_cond3 i = 1#1 <;> by_cases hc3 : k0_cond4 i = 1#1
  all_goals
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    subst hf0 hf1 hf2 hf3
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

variable (m : (ℓ : Loc nD τ sig) → Buf (Elt F) ℓ) (ρ : Dev nD → PrngReg)

/-- The outputs, of which nothing is stated. -/
def outputs : Fin 7 → Bool := fun w => w.val == 4 || w.val == 5 || w.val == 6

/-- The proof data of the one pipeline on core `c`: every input's buffer at its block, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, H4, H5, H6⟩
  iapply (run c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The row of the body table at point `t` is the body there. -/
theorem defs_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ outputs := fun t => by
  rw [bigSep_W0, bigSep_W0, defs_row]
  exact triple_restated (sound_body m c t) rfl .rfl fun _ => .rfl

set_option backward.isDefEq.respectTransparency.types false in
/-- The program runs, its inputs as they were, with every counter at zero. -/
theorem run_quiescent : θ_run defs (onTc (τ := τ) (main (F := F))) (s₀ m ρ) (fun r => (Pipeline.RDat.FramePost (cfgs 0) (fun c => (dats m 0 c).toRForget outputs) (V m)) r ∧ r.2.sem = fun _ => 0) :=
  Pipeline.θ_run_frame_forget (Q' := _) cfgs (dats m) (0 : Fin 1) launch0 defs₀ Variants.none outputs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and keeps its arguments. -/
theorem frame_K : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c)⟩, h.2⟩) (run_quiescent m ρ)

end Cert.InProjPlain

end
-- ==== Proof.InProjRun.lean ====
/- The input projection's body, one run for each of the four kinds of column tile. -/
module

public import proofs.«01_k».proof.Proof.Gen.Kernel7Ideal.Frame
public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Tactic
public import Idealize.ShloMosaic.Lib.WordCmp

@[expose] public section

set_option maxRecDepth 16384

noncomputable section

namespace Cert.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The tiles the body reads and writes, whole -/

abbrev rh : Rect S1024x4096 := Rect.unit (s := S1024x4096) ![0, 0] S1024x4096.size inb_S1024x4096_S1024x4096_0_0
abbrev rw' : Rect S4096x512 := Rect.unit (s := S4096x512) ![0, 0] S4096x512.size inb_S4096x512_S4096x512_0_0
abbrev rt : Rect S1024x128 := Rect.unit (s := S1024x128) ![0, 0] S1024x128.size inb_S1024x128_S1024x128_0_0
abbrev ro : Rect S1024x512 := Rect.unit (s := S1024x512) ![0, 0] S1024x512.size inb_S1024x512_S1024x512_0_0

/-- A tile of queries and keys: the product, rotated. -/
def outA (i : grid0.Coords) (x0 : Vec F S1024x4096 .bf16) (x1 : Vec F S4096x512 .bf16) (x2 x3 : Vec F S1024x128 .f32) : Vec F S1024x512 .bf16 :=
  View.canon [⟨ro, k0_pay2 i (View.ld x0 rh) (View.ld x1 rw') (View.ld x2 rt) (View.ld x3 rt)⟩]

/-- A tile stored as multiplied, rounded to half precision. -/
def outB (x0 : Vec F S1024x4096 .bf16) (x1 : Vec F S4096x512 .bf16) : Vec F S1024x512 .bf16 :=
  View.canon [⟨ro, k0_pay3 (View.ld x0 rh) (View.ld x1 rw')⟩]

/-- A tile stored as multiplied. -/
def outC (x0 : Vec F S1024x4096 .bf16) (x1 : Vec F S4096x512 .bf16) : Vec F S1024x512 .f32 :=
  View.canon [⟨ro, k0_pay1 (View.ld x0 rh) (View.ld x1 rw')⟩]

/-- One store of the whole tile covers it. -/
theorem cover_o {e : EltTy} (p0 : Vec F S1024x512 e) (y : S1024x512.Idx) :
    ∃ pc ∈ ([⟨ro, p0⟩] : List (View.Piece (Elt F) S1024x512 e)), y ∈ pc.1.set :=
  View.cover_of_tiled [⟨ro, p0⟩] S1024x512.size (by rfl) y

set_option maxHeartbeats 1000000 in
/-- The body at a tile of queries and keys: the product is rotated and stored, the two other outputs' buffers are left alone. -/
theorem runA (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (hc0 : k0_cond1 i = 1#1) (hc1 : ¬k0_cond2 i = 1#1) (hc2 : ¬k0_cond3 i = 1#1) (hc3 : ¬k0_cond4 i = 1#1)
    (x0 : Vec F S1024x4096 .bf16) (x1 : Vec F S4096x512 .bf16) (x2 x3 : Vec F S1024x128 .f32)
    (y4 : Vec F S1024x512 .bf16) (y5 y6 : Vec F S1024x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outA i x0 x1 x2 x3) ∗ owns (c : Thread nD τ) arg7 fullShare y5 ∗ owns (c : Thread nD τ) arg8 fullShare y6) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro; exact View.read_writes_eq_canon _ _ _ (cover_o _)
  isplitl [H5]
  · iexists f5; isplitr; · ipureintro; rfl
    iexact H5
  iexists f6; isplitr; · ipureintro; rfl
  iexact H6

set_option maxHeartbeats 1000000 in
/-- The body at a later tile of the first output: the product is stored rounded. -/
theorem runB (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (hc0 : ¬k0_cond1 i = 1#1) (hc1 : k0_cond2 i = 1#1) (hc2 : ¬k0_cond3 i = 1#1) (hc3 : ¬k0_cond4 i = 1#1)
    (x0 : Vec F S1024x4096 .bf16) (x1 : Vec F S4096x512 .bf16) (x2 x3 : Vec F S1024x128 .f32)
    (y4 : Vec F S1024x512 .bf16) (y5 y6 : Vec F S1024x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB x0 x1) ∗ owns (c : Thread nD τ) arg7 fullShare y5 ∗ owns (c : Thread nD τ) arg8 fullShare y6) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro; exact View.read_writes_eq_canon _ _ _ (cover_o _)
  isplitl [H5]
  · iexists f5; isplitr; · ipureintro; rfl
    iexact H5
  iexists f6; isplitr; · ipureintro; rfl
  iexact H6

set_option maxHeartbeats 1000000 in
/-- The body at a tile of the second output. -/
theorem runC (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (hc0 : ¬k0_cond1 i = 1#1) (hc1 : ¬k0_cond2 i = 1#1) (hc2 : k0_cond3 i = 1#1) (hc3 : ¬k0_cond4 i = 1#1)
    (x0 : Vec F S1024x4096 .bf16) (x1 : Vec F S4096x512 .bf16) (x2 x3 : Vec F S1024x128 .f32)
    (y4 : Vec F S1024x512 .bf16) (y5 y6 : Vec F S1024x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare (outC x0 x1) ∗ owns (c : Thread nD τ) arg8 fullShare y6) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro; exact View.read_writes_eq_canon _ _ _ (cover_o _)
  iexists f6; isplitr; · ipureintro; rfl
  iexact H6

set_option maxHeartbeats 1000000 in
/-- The body at a tile of the third output. -/
theorem runD (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (hc0 : ¬k0_cond1 i = 1#1) (hc1 : ¬k0_cond2 i = 1#1) (hc2 : ¬k0_cond3 i = 1#1) (hc3 : k0_cond4 i = 1#1)
    (x0 : Vec F S1024x4096 .bf16) (x1 : Vec F S4096x512 .bf16) (x2 x3 : Vec F S1024x128 .f32)
    (y4 : Vec F S1024x512 .bf16) (y5 y6 : Vec F S1024x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (outC x0 x1)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr; swap; · iexact H6
  ipureintro; exact View.read_writes_eq_canon _ _ _ (cover_o _)

end Cert.InProj

end
-- ==== Proof.InProjBody.lean ====
/- The input projection over its whole grid: what each buffer holds after every point, and the run. -/
module

public import proofs.«01_k».proof.Proof.InProjRun
public import Idealize.ShloMosaic.Lib.Claim

@[expose] public section

set_option maxRecDepth 16384

noncomputable section

namespace Cert.InProj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Where the body branches, where a window is idle, where it is written back -/

theorem size_N : cfg0.N = 208 := N_0

theorem cond1_iff : ∀ t : Fin cfg0.N, k0_cond1 (grid0.coords t) = 1#1 ↔ t.val % 13 ≤ 2 :=
  (by decide +kernel : ∀ t : Fin grid0.N, k0_cond1 (grid0.coords t) = 1#1 ↔ t.val % 13 ≤ 2)
theorem cond2_iff : ∀ t : Fin cfg0.N, k0_cond2 (grid0.coords t) = 1#1 ↔ (3 ≤ t.val % 13 ∧ t.val % 13 ≤ 8) :=
  (by decide +kernel : ∀ t : Fin grid0.N, k0_cond2 (grid0.coords t) = 1#1 ↔ (3 ≤ t.val % 13 ∧ t.val % 13 ≤ 8))
theorem cond3_iff : ∀ t : Fin cfg0.N, k0_cond3 (grid0.coords t) = 1#1 ↔ (9 ≤ t.val % 13 ∧ t.val % 13 ≤ 10) :=
  (by decide +kernel : ∀ t : Fin grid0.N, k0_cond3 (grid0.coords t) = 1#1 ↔ (9 ≤ t.val % 13 ∧ t.val % 13 ≤ 10))
theorem cond4_iff : ∀ t : Fin cfg0.N, k0_cond4 (grid0.coords t) = 1#1 ↔ 11 ≤ t.val % 13 :=
  (by decide +kernel : ∀ t : Fin grid0.N, k0_cond4 (grid0.coords t) = 1#1 ↔ 11 ≤ t.val % 13)

theorem idle4 : ∀ t : Fin cfg0.N, cfg0.idle 4 (grid0.coords t) = decide (9 ≤ t.val % 13) :=
  (by decide +kernel : ∀ t : Fin grid0.N, idle0 4 (grid0.coords t) = decide (9 ≤ t.val % 13))
theorem idle5 : ∀ t : Fin cfg0.N, cfg0.idle 5 (grid0.coords t) = decide (¬(9 ≤ t.val % 13 ∧ t.val % 13 ≤ 10)) :=
  (by decide +kernel : ∀ t : Fin grid0.N, idle0 5 (grid0.coords t) = decide (¬(9 ≤ t.val % 13 ∧ t.val % 13 ≤ 10)))
theorem idle6 : ∀ t : Fin cfg0.N, cfg0.idle 6 (grid0.coords t) = decide (t.val % 13 ≤ 10) :=
  (by decide +kernel : ∀ t : Fin grid0.N, idle0 6 (grid0.coords t) = decide (t.val % 13 ≤ 10))

theorem flush4 : ∀ t : Fin cfg0.N, (cfg0.win 4).flush t = decide (t.val % 13 ≤ 7 ∨ t.val % 13 = 12) :=
  (by decide +kernel : ∀ t : Fin grid0.N, win0_4.flush t = decide (t.val % 13 ≤ 7 ∨ t.val % 13 = 12))
theorem flush5 : ∀ t : Fin cfg0.N, (cfg0.win 5).flush t = decide (t.val % 13 = 9 ∨ t.val % 13 = 12) :=
  (by decide +kernel : ∀ t : Fin grid0.N, win0_5.flush t = decide (t.val % 13 = 9 ∨ t.val % 13 = 12))
theorem flush6 : ∀ t : Fin cfg0.N, (cfg0.win 6).flush t = decide (11 ≤ t.val % 13) :=
  (by decide +kernel : ∀ t : Fin grid0.N, win0_6.flush t = decide (11 ≤ t.val % 13))

/-! ## What each buffer holds -/

/-- The point of `t`'s row of tiles whose column tile is `j` brought into `[lo, hi]`. -/
def clamp (lo hi : ℕ) (h : hi < 13) (hl : lo ≤ hi) (t : Fin cfg0.N) : Fin cfg0.N :=
  ⟨t.val / 13 * 13 + max lo (min (t.val % 13) hi), by
    have ht := t.isLt; have hN := size_N; have : max lo (min (t.val % 13) hi) ≤ hi := by omega
    omega⟩

/-- What the first output's buffer holds after point `t`: the tile of the last point up to `t` that stored one. -/
def after4 (c : Dev nD) (t : Fin cfg0.N) : Vec F S1024x512 .bf16 :=
  if t.val % 13 ≤ 2 then outA (grid0.coords t) (iblk m c 0 t) (iblk m c 1 t) (iblk m c 2 t) (iblk m c 3 t)
  else outB (iblk m c 0 (clamp 0 8 (by decide) (by decide) t)) (iblk m c 1 (clamp 0 8 (by decide) (by decide) t))
/-- The second output's. -/
def after5 (c : Dev nD) (t : Fin cfg0.N) : Vec F S1024x512 .f32 :=
  outC (iblk m c 0 (clamp 9 10 (by decide) (by decide) t)) (iblk m c 1 (clamp 9 10 (by decide) (by decide) t))
/-- The third output's. -/
def after6 (c : Dev nD) (t : Fin cfg0.N) : Vec F S1024x512 .f32 :=
  outC (iblk m c 0 t) (iblk m c 1 t)

/-- The proof data of the one pipeline on core `c`: the arrays as the region finds them, after each point every input's
    buffer at its block and every output's at the tile last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => after4 m c t
    | ⟨5, _⟩ => after5 m c t
    | ⟨6, _⟩ => after6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = after4 m c t := by dsimp only [dats]
theorem after_5 (c : Dev nD) (t : Fin cfg0.N) : (dats m 0 c).after 5 t = after5 m c t := by dsimp only [dats]
theorem after_6 (c : Dev nD) (t : Fin cfg0.N) : (dats m 0 c).after 6 t = after6 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## A buffer left alone keeps the tile last stored -/

/-- The point before. -/
def prev (t : Fin cfg0.N) : Fin cfg0.N := ⟨t.val - 1, Nat.lt_of_le_of_lt (Nat.sub_le _ _) t.isLt⟩

theorem clamp_prev (lo hi : ℕ) (h : hi < 13) (hl : lo ≤ hi) (t : Fin cfg0.N) (ht : hi + 1 ≤ t.val % 13) :
    clamp lo hi h hl (prev t) = clamp lo hi h hl t := by
  apply Fin.ext; simp only [clamp, prev]; omega

/-- Past the last tile of the first output its buffer holds, before the body as after, the tile last stored. -/
theorem before_4 (c : Dev nD) : ∀ (n : ℕ) (t : Fin cfg0.N), t.val % 13 = 9 + n → ∀ d,
    (dats m 0 c).before 4 t d = after4 m c t := by
  intro n
  induction n with
  | zero =>
    intro t ht d
    rw [(dats m 0 c).before_of_pos 4 t (by omega) rfl d]
    change (if (cfg0.win 4).flush (prev t) then d else (dats m 0 c).left 4 (prev t) d) = _
    have hp : (prev t).val % 13 = 8 := by simp only [prev]; omega
    rw [flush4, if_neg (by simp only [decide_eq_true_eq]; omega)]
    unfold Dat.left
    rw [show cfg0.idle 4 (cfg0.grid.coords (prev t)) = false from (idle4 (prev t)).trans (by simp only [decide_eq_false_iff_not]; omega)]
    change (dats m 0 c).after 4 (prev t) = _
    rw [after_4]; unfold after4
    rw [if_neg (by omega), if_neg (by omega), clamp_prev 0 8 _ _ t (by omega)]
  | succ n ih =>
    intro t ht d
    rw [(dats m 0 c).before_of_pos 4 t (by omega) rfl d]
    change (if (cfg0.win 4).flush (prev t) then d else (dats m 0 c).left 4 (prev t) d) = _
    have hp : (prev t).val % 13 = 9 + n := by simp only [prev]; omega
    rw [flush4, if_neg (by simp only [decide_eq_true_eq]; omega)]
    unfold Dat.left
    rw [show cfg0.idle 4 (cfg0.grid.coords (prev t)) = true from (idle4 (prev t)).trans (by simp only [decide_eq_true_eq]; omega)]
    change (dats m 0 c).before 4 (prev t) d = _
    rw [ih (prev t) hp]; unfold after4
    rw [if_neg (by omega), if_neg (by omega), clamp_prev 0 8 _ _ t (by omega)]

/-- The same of the second output. -/
theorem before_5 (c : Dev nD) : ∀ (n : ℕ) (t : Fin cfg0.N), t.val % 13 = 11 + n → ∀ d,
    (dats m 0 c).before 5 t d = after5 m c t := by
  intro n
  induction n with
  | zero =>
    intro t ht d
    rw [(dats m 0 c).before_of_pos 5 t (by omega) rfl d]
    change (if (cfg0.win 5).flush (prev t) then d else (dats m 0 c).left 5 (prev t) d) = _
    have hp : (prev t).val % 13 = 10 := by simp only [prev]; omega
    rw [flush5, if_neg (by simp only [decide_eq_true_eq]; omega)]
    unfold Dat.left
    rw [show cfg0.idle 5 (cfg0.grid.coords (prev t)) = false from (idle5 (prev t)).trans (by simp only [decide_eq_false_iff_not]; omega)]
    change (dats m 0 c).after 5 (prev t) = _
    rw [after_5]; unfold after5
    rw [clamp_prev 9 10 _ _ t (by omega)]
  | succ n ih =>
    intro t ht d
    rw [(dats m 0 c).before_of_pos 5 t (by omega) rfl d]
    change (if (cfg0.win 5).flush (prev t) then d else (dats m 0 c).left 5 (prev t) d) = _
    have hp : (prev t).val % 13 = 11 + n := by simp only [prev]; omega
    rw [flush5, if_neg (by simp only [decide_eq_true_eq]; omega)]
    unfold Dat.left
    rw [show cfg0.idle 5 (cfg0.grid.coords (prev t)) = true from (idle5 (prev t)).trans (by simp only [decide_eq_true_eq]; omega)]
    change (dats m 0 c).before 5 (prev t) d = _
    rw [ih (prev t) hp]; unfold after5
    rw [clamp_prev 9 10 _ _ t (by omega)]

/-- A buffer left alone at a point where its window is idle is what is asked of it there. -/
theorem keep (c : Dev nD) (w : Fin cfg0.W) (t : Fin cfg0.N) (hi : cfg0.idle w (cfg0.grid.coords t) = true) (d)
    (hb : (cfg0.win w).flush t = true → (dats m 0 c).before w t d = (dats m 0 c).after w t) :
    (owns (c : Thread nD τ) ((cfg0.win w).stage (cfg0.slots t w)) fullShare ((dats m 0 c).before w t d) : sProp (MT nD τ sig Unit (Elt F) ℕ (UR sig nD τ) ℕ))
      ⊢ (dats m 0 c).leavesExact w t := by
  unfold Dat.leavesExact
  rw [hi]
  cases hf : (cfg0.win w).flush t with
  | false => iintro H; iexists d; iexact H
  | true => rw [hb hf]

theorem keep4 (c : Dev nD) (t : Fin cfg0.N) (h : 9 ≤ t.val % 13) (d) :
    (owns (c : Thread nD τ) (st0_4 t) fullShare ((dats m 0 c).before 4 t d) : sProp (MT nD τ sig Unit (Elt F) ℕ (UR sig nD τ) ℕ)) ⊢ (dats m 0 c).leavesExact 4 t :=
  keep m c 4 t ((idle4 t).trans (decide_eq_true h)) d fun _ => (before_4 m c (t.val % 13 - 9) t (by omega) d).trans (after_4 m c t).symm
theorem keep5 (c : Dev nD) (t : Fin cfg0.N) (h : ¬(9 ≤ t.val % 13 ∧ t.val % 13 ≤ 10)) (d) :
    (owns (c : Thread nD τ) (st0_5 t) fullShare ((dats m 0 c).before 5 t d) : sProp (MT nD τ sig Unit (Elt F) ℕ (UR sig nD τ) ℕ)) ⊢ (dats m 0 c).leavesExact 5 t :=
  keep m c 5 t ((idle5 t).trans (decide_eq_true h)) d fun hf => by
    rw [flush5] at hf
    have hf' := of_decide_eq_true hf
    exact (before_5 m c (t.val % 13 - 11) t (by omega) d).trans (after_5 m c t).symm
theorem keep6 (c : Dev nD) (t : Fin cfg0.N) (h : t.val % 13 ≤ 10) (d) :
    (owns (c : Thread nD τ) (st0_6 t) fullShare ((dats m 0 c).before 6 t d) : sProp (MT nD τ sig Unit (Elt F) ℕ (UR sig nD τ) ℕ)) ⊢ (dats m 0 c).leavesExact 6 t :=
  keep m c 6 t ((idle6 t).trans (decide_eq_true h)) d fun hf => by
    rw [flush6] at hf
    have hf' := of_decide_eq_true hf
    omega

/-! ## The body at every point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t
    ∗ (dats m 0 c).leavesExact 6 t)

theorem live4 (c : Dev nD) (t : Fin cfg0.N) (h : t.val % 13 ≤ 8) :
    ((dats m 0 c).leavesExact 4 t : sProp (MT nD τ sig Unit (Elt F) ℕ (UR sig nD τ) ℕ)) = owns (c : Thread nD τ) (st0_4 t) fullShare (after4 m c t) := by
  unfold Dat.leavesExact
  rw [show cfg0.idle 4 (cfg0.grid.coords t) = false from (idle4 t).trans (decide_eq_false (by omega)), after_4]
theorem live5 (c : Dev nD) (t : Fin cfg0.N) (h : 9 ≤ t.val % 13 ∧ t.val % 13 ≤ 10) :
    ((dats m 0 c).leavesExact 5 t : sProp (MT nD τ sig Unit (Elt F) ℕ (UR sig nD τ) ℕ)) = owns (c : Thread nD τ) (st0_5 t) fullShare (after5 m c t) := by
  unfold Dat.leavesExact
  rw [show cfg0.idle 5 (cfg0.grid.coords t) = false from (idle5 t).trans (decide_eq_false (by omega)), after_5]
theorem live6 (c : Dev nD) (t : Fin cfg0.N) (h : 11 ≤ t.val % 13) :
    ((dats m 0 c).leavesExact 6 t : sProp (MT nD τ sig Unit (Elt F) ℕ (UR sig nD τ) ℕ)) = owns (c : Thread nD τ) (st0_6 t) fullShare (after6 m c t) := by
  unfold Dat.leavesExact
  rw [show cfg0.idle 6 (cfg0.grid.coords t) = false from (idle6 t).trans (decide_eq_false (by omega)), after_6]

theorem clamp_self (lo hi : ℕ) (h : hi < 13) (hl : lo ≤ hi) (t : Fin cfg0.N) (h1 : lo ≤ t.val % 13) (h2 : t.val % 13 ≤ hi) :
    clamp lo hi h hl t = t := by
  apply Fin.ext; simp only [clamp]; omega

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 13 ≤ 2
  · rw [live4 m c t (by omega), show after4 m c t = outA (grid0.coords t) (iblk m c 0 t) (iblk m c 1 t) (iblk m c 2 t) (iblk m c 3 t) from if_pos h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((cond1_iff t).mpr (by omega)) (fun h => absurd ((cond2_iff t).mp h) (by omega)) (fun h => absurd ((cond3_iff t).mp h) (by omega)) (fun h => absurd ((cond4_iff t).mp h) (by omega)) (iblk m c 0 t) (iblk m c 1 t) (iblk m c 2 t) (iblk m c 3 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (keep5 m c t (by omega) _); iexact H5
    iapply (keep6 m c t (by omega) _); iexact H6
  by_cases h1 : t.val % 13 ≤ 8
  · rw [live4 m c t (by omega), show after4 m c t = outB (iblk m c 0 t) (iblk m c 1 t) from (if_neg h0).trans (by rw [clamp_self 0 8 _ _ t (by omega) h1])]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun h => absurd ((cond1_iff t).mp h) (by omega)) ((cond2_iff t).mpr (by omega)) (fun h => absurd ((cond3_iff t).mp h) (by omega)) (fun h => absurd ((cond4_iff t).mp h) (by omega)) (iblk m c 0 t) (iblk m c 1 t) (iblk m c 2 t) (iblk m c 3 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (keep5 m c t (by omega) _); iexact H5
    iapply (keep6 m c t (by omega) _); iexact H6
  by_cases h2 : t.val % 13 ≤ 10
  · rw [live5 m c t (by omega), show after5 m c t = outC (iblk m c 0 t) (iblk m c 1 t) from by unfold after5; rw [clamp_self 9 10 _ _ t (by omega) h2]]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runC c (grid0.coords t) _ _ _ _ _ _ _ _ _ _ _ _ _ _ (fun h => absurd ((cond1_iff t).mp h) (by omega)) (fun h => absurd ((cond2_iff t).mp h) (by omega)) ((cond3_iff t).mpr (by omega)) (fun h => absurd ((cond4_iff t).mp h) (by omega)) (iblk m c 0 t) (iblk m c 1 t) (iblk m c 2 t) (iblk m c 3 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 m c t (by omega) _); iexact H4
    isplitl [H5]; · iexact H5
    iapply (keep6 m c t (by omega) _); iexact H6
  · rw [live6 m c t (by omega), show after6 m c t = outC (iblk m c 0 t) (iblk m c 1 t) from rfl]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runD c (grid0.coords t) _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) (iblk m c 0 t) (iblk m c 1 t) (iblk m c 2 t) (iblk m c 3 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 m c t (by omega) _); iexact H4
    isplitl [H5]; · iapply (keep5 m c t (by omega) _); iexact H5
    iexact H6

/-- The row of the body table at point `t` is the body there. -/
theorem defs_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- The program runs to the arrays the proof data give, with every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and keeps its arguments. -/
theorem frame_K : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.InProj

end
-- ==== Proof.WindowRef.lean ====
/- The window attention's plain definition, cut into its stages. -/
module

public import proofs.«01_k».proof.Proof.Gen.KernelIdeal.Launch
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.WindowRef

open Cert.KernelIdeal Cert.KernelIdeal.Gen

/-- The queries. -/
def qH (Q : FVec Ideal S16384x4608 .bf16) : FVec Ideal Cert.ReferenceIdeal.S2x64x128x2x4x128 .f32 :=
  shapeCast _ (shapeCast _ (extractStridedSlice Cert.ReferenceIdeal.S2x8192x1024 ![0, 0, 0] (shapeCast _ (extf .f32 Q Cert.ReferenceIdeal.Gen.bitsLt_bf16_f32) Cert.ReferenceIdeal.Gen.shapeCasts_S16384x4608_S2x8192x4608) Cert.ReferenceIdeal.Gen.slices_S2x8192x4608_S2x8192x1024_0_0_0) Cert.ReferenceIdeal.Gen.shapeCasts_S2x8192x1024_S2x8192x8x128) Cert.ReferenceIdeal.Gen.shapeCasts_S2x8192x8x128_S2x64x128x2x4x128

/-- The values in blocks of 128, a block of zeros before and after. -/
def vP (Q : FVec Ideal S16384x4608 .bf16) : FVec Ideal Cert.ReferenceIdeal.S2x66x128x2x128 .f32 :=
  shapeCast _ (pad Cert.ReferenceIdeal.S2x8448x2x128 ![0, 128, 0, 0] ![0, 128, 0, 0] ![0, 0, 0, 0] (shapeCast _ (extractStridedSlice Cert.ReferenceIdeal.S2x8192x256 ![0, 0, 1280] (shapeCast _ (extf .f32 Q Cert.ReferenceIdeal.Gen.bitsLt_bf16_f32) Cert.ReferenceIdeal.Gen.shapeCasts_S16384x4608_S2x8192x4608) Cert.ReferenceIdeal.Gen.slices_S2x8192x4608_S2x8192x256_0_0_1280) Cert.ReferenceIdeal.Gen.shapeCasts_S2x8192x256_S2x8192x2x128) (sitofp .f32 (constantI Cert.ReferenceIdeal.S_ 32 0#32)) Cert.ReferenceIdeal.Gen.pads_S2x8192x2x128_S2x8448x2x128_000_1281280_000_000 Cert.ReferenceIdeal.Gen.h_S_) Cert.ReferenceIdeal.Gen.shapeCasts_S2x8448x2x128_S2x66x128x2x128

/-- The keys in blocks of 128, a block of zeros before and after. -/
def kP (Q : FVec Ideal S16384x4608 .bf16) : FVec Ideal Cert.ReferenceIdeal.S2x66x128x2x128 .f32 :=
  shapeCast _ (pad Cert.ReferenceIdeal.S2x8448x2x128 ![0, 128, 0, 0] ![0, 128, 0, 0] ![0, 0, 0, 0] (shapeCast _ (extractStridedSlice Cert.ReferenceIdeal.S2x8192x256 ![0, 0, 1024] (shapeCast _ (extf .f32 Q Cert.ReferenceIdeal.Gen.bitsLt_bf16_f32) Cert.ReferenceIdeal.Gen.shapeCasts_S16384x4608_S2x8192x4608) Cert.ReferenceIdeal.Gen.slices_S2x8192x4608_S2x8192x256_0_0_1024) Cert.ReferenceIdeal.Gen.shapeCasts_S2x8192x256_S2x8192x2x128) (sitofp .f32 (constantI Cert.ReferenceIdeal.S_ 32 0#32)) Cert.ReferenceIdeal.Gen.pads_S2x8192x2x128_S2x8448x2x128_000_1281280_000_000 Cert.ReferenceIdeal.Gen.h_S_) Cert.ReferenceIdeal.Gen.shapeCasts_S2x8448x2x128_S2x66x128x2x128

/-- The values of a block and its neighbours. -/
def vW (Q : FVec Ideal S16384x4608 .bf16) : FVec Ideal Cert.ReferenceIdeal.S2x64x384x2x128 .f32 :=
  concatenate Cert.ReferenceIdeal.S2x64x384x2x128 2 [⟨Cert.ReferenceIdeal.S2x64x128x2x128, ((extractStridedSlice Cert.ReferenceIdeal.S2x64x128x2x128 ![0, 0, 0, 0, 0] (vP Q) Cert.ReferenceIdeal.Gen.slices_S2x66x128x2x128_S2x64x128x2x128_0_0_0_0_0))⟩, ⟨Cert.ReferenceIdeal.S2x64x128x2x128, ((extractStridedSlice Cert.ReferenceIdeal.S2x64x128x2x128 ![0, 1, 0, 0, 0] (vP Q) Cert.ReferenceIdeal.Gen.slices_S2x66x128x2x128_S2x64x128x2x128_0_1_0_0_0))⟩, ⟨Cert.ReferenceIdeal.S2x64x128x2x128, ((extractStridedSlice Cert.ReferenceIdeal.S2x64x128x2x128 ![0, 2, 0, 0, 0] (vP Q) Cert.ReferenceIdeal.Gen.slices_S2x66x128x2x128_S2x64x128x2x128_0_2_0_0_0))⟩] Cert.ReferenceIdeal.Gen.concatenates_S2x64x128x2x128_S2x64x128x2x128_S2x64x128x2x128_S2x64x384x2x128_d2

/-- The keys of a block and its neighbours. -/
def kW (Q : FVec Ideal S16384x4608 .bf16) : FVec Ideal Cert.ReferenceIdeal.S2x64x384x2x128 .f32 :=
  concatenate Cert.ReferenceIdeal.S2x64x384x2x128 2 [⟨Cert.ReferenceIdeal.S2x64x128x2x128, ((extractStridedSlice Cert.ReferenceIdeal.S2x64x128x2x128 ![0, 0, 0, 0, 0] (kP Q) Cert.ReferenceIdeal.Gen.slices_S2x66x128x2x128_S2x64x128x2x128_0_0_0_0_0))⟩, ⟨Cert.ReferenceIdeal.S2x64x128x2x128, ((extractStridedSlice Cert.ReferenceIdeal.S2x64x128x2x128 ![0, 1, 0, 0, 0] (kP Q) Cert.ReferenceIdeal.Gen.slices_S2x66x128x2x128_S2x64x128x2x128_0_1_0_0_0))⟩, ⟨Cert.ReferenceIdeal.S2x64x128x2x128, ((extractStridedSlice Cert.ReferenceIdeal.S2x64x128x2x128 ![0, 2, 0, 0, 0] (kP Q) Cert.ReferenceIdeal.Gen.slices_S2x66x128x2x128_S2x64x128x2x128_0_2_0_0_0))⟩] Cert.ReferenceIdeal.Gen.concatenates_S2x64x128x2x128_S2x64x128x2x128_S2x64x128x2x128_S2x64x384x2x128_d2

/-- The context's values. -/
def cV (C : FVec Ideal S512x4608 .bf16) : FVec Ideal Cert.ReferenceIdeal.S2x256x2x128 .f32 :=
  shapeCast _ (extractStridedSlice Cert.ReferenceIdeal.S2x256x256 ![0, 0, 1280] (shapeCast _ (extf .f32 C Cert.ReferenceIdeal.Gen.bitsLt_bf16_f32) Cert.ReferenceIdeal.Gen.shapeCasts_S512x4608_S2x256x4608) Cert.ReferenceIdeal.Gen.slices_S2x256x4608_S2x256x256_0_0_1280) Cert.ReferenceIdeal.Gen.shapeCasts_S2x256x256_S2x256x2x128

/-- The context's keys. -/
def cK (C : FVec Ideal S512x4608 .bf16) : FVec Ideal Cert.ReferenceIdeal.S2x256x2x128 .f32 :=
  shapeCast _ (extractStridedSlice Cert.ReferenceIdeal.S2x256x256 ![0, 0, 1024] (shapeCast _ (extf .f32 C Cert.ReferenceIdeal.Gen.bitsLt_bf16_f32) Cert.ReferenceIdeal.Gen.shapeCasts_S512x4608_S2x256x4608) Cert.ReferenceIdeal.Gen.slices_S2x256x4608_S2x256x256_0_0_1024) Cert.ReferenceIdeal.Gen.shapeCasts_S2x256x256_S2x256x2x128

/-- The keys a query sees. -/
def mask : IVec Cert.ReferenceIdeal.S64x128x384 1 :=
  andi (broadcastInDim Cert.ReferenceIdeal.S64x128x384 ![0, 1, 2] Cert.ReferenceIdeal.Gen.bcast_S1x128x384_S64x128x384_0_1_2 (broadcastInDim Cert.ReferenceIdeal.S1x128x384 ![1, 2] Cert.ReferenceIdeal.Gen.bcast_S128x384_S1x128x384_1_2 (cmpi .sle (absi (subi (broadcastInDim Cert.ReferenceIdeal.S128x384 ![0, 1] Cert.ReferenceIdeal.Gen.bcast_S1x384_S128x384_0_1 (subi (broadcastInDim Cert.ReferenceIdeal.S1x384 ![1] Cert.ReferenceIdeal.Gen.bcast_S384_S1x384_1 (iotaInDim Cert.ReferenceIdeal.S384 32 0)) (broadcastInDim Cert.ReferenceIdeal.S1x384 ![] Cert.ReferenceIdeal.Gen.bcast_S_S1x384 (constantI Cert.ReferenceIdeal.S_ 32 128#32)))) (broadcastInDim Cert.ReferenceIdeal.S128x384 ![0, 1] Cert.ReferenceIdeal.Gen.bcast_S128x1_S128x384_0_1 (broadcastInDim Cert.ReferenceIdeal.S128x1 ![0] Cert.ReferenceIdeal.Gen.bcast_S128_S128x1_0 (iotaInDim Cert.ReferenceIdeal.S128 32 0))))) (broadcastInDim Cert.ReferenceIdeal.S128x384 ![] Cert.ReferenceIdeal.Gen.bcast_S_S128x384 (constantI Cert.ReferenceIdeal.S_ 32 128#32))))) (broadcastInDim Cert.ReferenceIdeal.S64x128x384 ![0, 1, 2] Cert.ReferenceIdeal.Gen.bcast_S64x1x384_S64x128x384_0_1_2 (broadcastInDim Cert.ReferenceIdeal.S64x1x384 ![0, 2] Cert.ReferenceIdeal.Gen.bcast_S64x384_S64x1x384_0_2 (andi (cmpi .sge (addi (broadcastInDim Cert.ReferenceIdeal.S64x384 ![0, 1] Cert.ReferenceIdeal.Gen.bcast_S64x1_S64x384_0_1 (subi (muli (broadcastInDim Cert.ReferenceIdeal.S64x1 ![0] Cert.ReferenceIdeal.Gen.bcast_S64_S64x1_0 (iotaInDim Cert.ReferenceIdeal.S64 32 0)) (broadcastInDim Cert.ReferenceIdeal.S64x1 ![] Cert.ReferenceIdeal.Gen.bcast_S_S64x1 (constantI Cert.ReferenceIdeal.S_ 32 128#32))) (broadcastInDim Cert.ReferenceIdeal.S64x1 ![] Cert.ReferenceIdeal.Gen.bcast_S_S64x1 (constantI Cert.ReferenceIdeal.S_ 32 128#32)))) (broadcastInDim Cert.ReferenceIdeal.S64x384 ![0, 1] Cert.ReferenceIdeal.Gen.bcast_S1x384_S64x384_0_1 (broadcastInDim Cert.ReferenceIdeal.S1x384 ![1] Cert.ReferenceIdeal.Gen.bcast_S384_S1x384_1 (iotaInDim Cert.ReferenceIdeal.S384 32 0)))) (broadcastInDim Cert.ReferenceIdeal.S64x384 ![] Cert.ReferenceIdeal.Gen.bcast_S_S64x384 (constantI Cert.ReferenceIdeal.S_ 32 0#32))) (cmpi .slt (addi (broadcastInDim Cert.ReferenceIdeal.S64x384 ![0, 1] Cert.ReferenceIdeal.Gen.bcast_S64x1_S64x384_0_1 (subi (muli (broadcastInDim Cert.ReferenceIdeal.S64x1 ![0] Cert.ReferenceIdeal.Gen.bcast_S64_S64x1_0 (iotaInDim Cert.ReferenceIdeal.S64 32 0)) (broadcastInDim Cert.ReferenceIdeal.S64x1 ![] Cert.ReferenceIdeal.Gen.bcast_S_S64x1 (constantI Cert.ReferenceIdeal.S_ 32 128#32))) (broadcastInDim Cert.ReferenceIdeal.S64x1 ![] Cert.ReferenceIdeal.Gen.bcast_S_S64x1 (constantI Cert.ReferenceIdeal.S_ 32 128#32)))) (broadcastInDim Cert.ReferenceIdeal.S64x384 ![0, 1] Cert.ReferenceIdeal.Gen.bcast_S1x384_S64x384_0_1 (broadcastInDim Cert.ReferenceIdeal.S1x384 ![1] Cert.ReferenceIdeal.Gen.bcast_S384_S1x384_1 (iotaInDim Cert.ReferenceIdeal.S384 32 0)))) (broadcastInDim Cert.ReferenceIdeal.S64x384 ![] Cert.ReferenceIdeal.Gen.bcast_S_S64x384 (constantI Cert.ReferenceIdeal.S_ 32 8192#32))))))

/-- The logits of the window. -/
def sLoc (Q : FVec Ideal S16384x4608 .bf16) : FVec Ideal Cert.ReferenceIdeal.S2x2x4x64x128x384 .f32 :=
  select (broadcastInDim Cert.ReferenceIdeal.S2x2x4x64x128x384 ![3, 4, 5] Cert.ReferenceIdeal.Gen.bcast_S64x128x384_S2x2x4x64x128x384_3_4_5 mask) (mulf (transpose Cert.ReferenceIdeal.S2x2x4x64x128x384 [0, 1, 5, 2, 4, 3] (Host.dotGeneral (F := Ideal) (φ₁ := .f32) (φ₂ := .f32) Cert.ReferenceIdeal.dot_S2x64x384x2x128_S2x64x128x2x4x128_S2x2x64x384x128x4_4_5_2_24_031_031 none ((kW Q)) (qH Q)) Cert.ReferenceIdeal.Gen.transposes_S2x2x64x384x128x4_S2x2x4x64x128x384_0_1_5_2_4_3) (broadcastInDim Cert.ReferenceIdeal.S2x2x4x64x128x384 ![] Cert.ReferenceIdeal.Gen.bcast_S_S2x2x4x64x128x384 (constant Cert.ReferenceIdeal.S_ .f32 0x3DB504F3#32))) (broadcastInDim Cert.ReferenceIdeal.S2x2x4x64x128x384 ![] Cert.ReferenceIdeal.Gen.bcast_S_S2x2x4x64x128x384 (id (constant Cert.ReferenceIdeal.S_ .f32 0xFF800000#32)))

/-- The logits of the context. -/
def sCtx (Q : FVec Ideal S16384x4608 .bf16) (C : FVec Ideal S512x4608 .bf16) : FVec Ideal Cert.ReferenceIdeal.S2x2x4x64x128x256 .f32 :=
  mulf (transpose Cert.ReferenceIdeal.S2x2x4x64x128x256 [0, 1, 5, 3, 4, 2] (Host.dotGeneral (F := Ideal) (φ₁ := .f32) (φ₂ := .f32) Cert.ReferenceIdeal.dot_S2x256x2x128_S2x64x128x2x4x128_S2x2x256x64x128x4_3_5_1_124_02_03 none (cK C) (qH Q)) Cert.ReferenceIdeal.Gen.transposes_S2x2x256x64x128x4_S2x2x4x64x128x256_0_1_5_3_4_2) (broadcastInDim Cert.ReferenceIdeal.S2x2x4x64x128x256 ![] Cert.ReferenceIdeal.Gen.bcast_S_S2x2x4x64x128x256 (constant Cert.ReferenceIdeal.S_ .f32 0x3DB504F3#32))

/-- All logits of a query, the sink's last. -/
def sAll (Q : FVec Ideal S16384x4608 .bf16) (C : FVec Ideal S512x4608 .bf16) (Z : FVec Ideal S8 .f32) : FVec Ideal Cert.ReferenceIdeal.S2x2x4x64x128x641 .f32 :=
  concatenate Cert.ReferenceIdeal.S2x2x4x64x128x641 5 [⟨Cert.ReferenceIdeal.S2x2x4x64x128x384, ((sLoc Q))⟩, ⟨Cert.ReferenceIdeal.S2x2x4x64x128x256, ((sCtx Q C))⟩, ⟨Cert.ReferenceIdeal.S2x2x4x64x128x1, ((broadcastInDim Cert.ReferenceIdeal.S2x2x4x64x128x1 ![0, 1, 2, 3, 4, 5] Cert.ReferenceIdeal.Gen.bcast_S1x2x4x1x1x1_S2x2x4x64x128x1_0_1_2_3_4_5 (shapeCast _ Z Cert.ReferenceIdeal.Gen.shapeCasts_S8_S1x2x4x1x1x1)))⟩] Cert.ReferenceIdeal.Gen.concatenates_S2x2x4x64x128x384_S2x2x4x64x128x256_S2x2x4x64x128x1_S2x2x4x64x128x641_d5

/-- The greatest logit. -/
def mx (Q : FVec Ideal S16384x4608 .bf16) (C : FVec Ideal S512x4608 .bf16) (Z : FVec Ideal S8 .f32) : FVec Ideal Cert.ReferenceIdeal.S2x2x4x64x128 .f32 :=
  maximumf (broadcastInDim Cert.ReferenceIdeal.S2x2x4x64x128 ![] Cert.ReferenceIdeal.Gen.bcast_S_S2x2x4x64x128 (constant Cert.ReferenceIdeal.S_ .f32 0xFF800000#32)) (Host.reduce FloatOps.maximumf ((sAll Q C Z)) (constant Cert.ReferenceIdeal.S_ .f32 0xFF800000#32) Cert.ReferenceIdeal.Gen.reducesTo_S2x2x4x64x128x641_S2x2x4x64x128_d5 Cert.ReferenceIdeal.Gen.h_S_)

/-- The exponentials. -/
def ex (Q : FVec Ideal S16384x4608 .bf16) (C : FVec Ideal S512x4608 .bf16) (Z : FVec Ideal S8 .f32) : FVec Ideal Cert.ReferenceIdeal.S2x2x4x64x128x641 .f32 :=
  Host.exp (subf ((sAll Q C Z)) (broadcastInDim Cert.ReferenceIdeal.S2x2x4x64x128x641 ![0, 1, 2, 3, 4, 5] Cert.ReferenceIdeal.Gen.bcast_S2x2x4x64x128x1_S2x2x4x64x128x641_0_1_2_3_4_5 (broadcastInDim Cert.ReferenceIdeal.S2x2x4x64x128x1 ![0, 1, 2, 3, 4] Cert.ReferenceIdeal.Gen.bcast_S2x2x4x64x128_S2x2x4x64x128x1_0_1_2_3_4 (mx Q C Z))))

/-- Their sum. -/
def dn (Q : FVec Ideal S16384x4608 .bf16) (C : FVec Ideal S512x4608 .bf16) (Z : FVec Ideal S8 .f32) : FVec Ideal Cert.ReferenceIdeal.S2x2x4x64x128 .f32 :=
  Host.reduceAdd (ex Q C Z) (constant Cert.ReferenceIdeal.S_ .f32 0x00000000#32) Cert.ReferenceIdeal.Gen.reducesTo_S2x2x4x64x128x641_S2x2x4x64x128_d5 Cert.ReferenceIdeal.Gen.h_S_

/-- The weights. -/
def pr (Q : FVec Ideal S16384x4608 .bf16) (C : FVec Ideal S512x4608 .bf16) (Z : FVec Ideal S8 .f32) : FVec Ideal Cert.ReferenceIdeal.S2x2x4x64x128x641 .f32 :=
  Host.divf (ex Q C Z) (broadcastInDim Cert.ReferenceIdeal.S2x2x4x64x128x641 ![0, 1, 2, 3, 4, 5] Cert.ReferenceIdeal.Gen.bcast_S2x2x4x64x128x1_S2x2x4x64x128x641_0_1_2_3_4_5 (broadcastInDim Cert.ReferenceIdeal.S2x2x4x64x128x1 ![0, 1, 2, 3, 4] Cert.ReferenceIdeal.Gen.bcast_S2x2x4x64x128_S2x2x4x64x128x1_0_1_2_3_4 (dn Q C Z)))

/-- The plain definition's term: the window attention. -/
def REF (Q : FVec Ideal S16384x4608 .bf16) (C : FVec Ideal S512x4608 .bf16) (Z : FVec Ideal S8 .f32) : FVec Ideal Cert.ReferenceIdeal.S16384x1024 .bf16 :=
  truncf .bf16 (shapeCast _ (shapeCast _ (addf (transpose Cert.ReferenceIdeal.S2x64x128x2x4x128 [0, 1, 5, 2, 4, 3] (Host.dotGeneral (F := Ideal) (φ₁ := .f32) (φ₂ := .f32) Cert.ReferenceIdeal.dot_S2x64x384x2x128_S2x2x4x64x128x384_S2x64x2x128x4x128_2_5_4_24_013_031 none ((vW Q)) (extractStridedSlice Cert.ReferenceIdeal.S2x2x4x64x128x384 ![0, 0, 0, 0, 0, 0] (pr Q C Z) Cert.ReferenceIdeal.Gen.slices_S2x2x4x64x128x641_S2x2x4x64x128x384_0_0_0_0_0_0)) Cert.ReferenceIdeal.Gen.transposes_S2x64x2x128x4x128_S2x64x128x2x4x128_0_1_5_2_4_3) (transpose Cert.ReferenceIdeal.S2x64x128x2x4x128 [0, 4, 5, 1, 3, 2] (Host.dotGeneral (F := Ideal) (φ₁ := .f32) (φ₂ := .f32) Cert.ReferenceIdeal.dot_S2x256x2x128_S2x2x4x64x128x256_S2x2x128x4x64x128_1_5_3_234_02_01 none (cV C) (extractStridedSlice Cert.ReferenceIdeal.S2x2x4x64x128x256 ![0, 0, 0, 0, 0, 384] (pr Q C Z) Cert.ReferenceIdeal.Gen.slices_S2x2x4x64x128x641_S2x2x4x64x128x256_0_0_0_0_0_384)) Cert.ReferenceIdeal.Gen.transposes_S2x2x128x4x64x128_S2x64x128x2x4x128_0_4_5_1_3_2)) Cert.ReferenceIdeal.Gen.shapeCasts_S2x64x128x2x4x128_S2x8192x1024) Cert.ReferenceIdeal.Gen.shapeCasts_S2x8192x1024_S16384x1024) Cert.ReferenceIdeal.Gen.bitsLt_bf16_f32

/-- What the plain definition's program leaves in its result is the last stage of its inputs. -/
theorem ref_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v90 m' c
      = REF (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := by
  rfl

end Cert.KernelIdeal.WindowRef

end
-- ==== Proof.WindowMath.lean ====
/- The window attention's arithmetic over the extended reals: a softmax over three groups of logits taken apart, and a softmax over
   their concatenation, with the normalization before and after the weights. -/
module

public import Idealize.ShloMosaic.Lib.Pointwise
public import Idealize.ShloMosaic.Lib.Claim

@[expose] public section

noncomputable section

open Idealize.ShloMosaic

namespace Cert.KernelIdeal.WindowMath

/-- `x` is a real number. -/
def Real1 (x : EReal) : Prop := ∃ r : ℝ, x = (r : EReal)

theorem Real1.mul {x y : EReal} (hx : Real1 x) (hy : Real1 y) : Real1 (x * y) := by
  obtain ⟨a, rfl⟩ := hx
  obtain ⟨b, rfl⟩ := hy
  exact ⟨a * b, (EReal.coe_mul a b).symm⟩

theorem Real1.add {x y : EReal} (hx : Real1 x) (hy : Real1 y) : Real1 (x + y) := by
  obtain ⟨a, rfl⟩ := hx
  obtain ⟨b, rfl⟩ := hy
  exact ⟨a + b, (EReal.coe_add a b).symm⟩

/-- A finite sum of reals is real. -/
theorem Real1.sum {n : ℕ} {f : Fin n → EReal} (h : ∀ k, Real1 (f k)) : Real1 (∑ k, f k) :=
  Finset.sum_induction f Real1 (fun _ _ => Real1.add) ⟨0, rfl⟩ fun k _ => h k

theorem Real1.lt_top {x : EReal} (h : Real1 x) : x < ⊤ := by
  obtain ⟨a, rfl⟩ := h
  exact EReal.coe_lt_top a

theorem Real1.bot_lt {x : EReal} (h : Real1 x) : ⊥ < x := by
  obtain ⟨a, rfl⟩ := h
  exact EReal.bot_lt_coe a

/-- Strictly between the infinities lie the reals only. -/
theorem real1_of {x : EReal} (h : ⊥ < x) (h' : x < ⊤) : Real1 x :=
  ⟨x.toReal, (EReal.coe_toReal h'.ne h.ne').symm⟩

/-- What has an absolute value below infinity is real. -/
theorem real1_of_abs {x : EReal} (h : max x (-x) < ⊤) : Real1 x := by
  induction x using EReal.rec with
  | bot => simp at h
  | coe r => exact ⟨r, rfl⟩
  | top => simp at h

/-- The scale of the logits is real. -/
theorem real1_scale : Real1 (Ideal.ofBits .f32 0x3DB504F3#32) :=
  ⟨_, rfl⟩

/-- The pattern of minus infinity. -/
theorem ofBits_bot : Ideal.ofBits .f32 0xFF800000#32 = ⊥ := by
  rfl

/-- The pattern of infinity. -/
theorem ofBits_top : Ideal.ofBits .f32 0x7F800000#32 = ⊤ := by
  rfl

/-- An entry of a matrix, zero outside it. -/
def rd {p q : ℕ} (X : (⟨2, ![p, q]⟩ : Shape).Idx → EReal) (R L : ℕ) : EReal :=
  if h : R < p ∧ L < q then X (ix2 ⟨R, h.1⟩ ⟨L, h.2⟩) else 0

theorem rd_eq {p q : ℕ} (X : (⟨2, ![p, q]⟩ : Shape).Idx → EReal) (R : Fin p) (L : Fin q) : X (ix2 R L) = rd X R.val L.val := by
  rw [rd, dif_pos ⟨R.isLt, L.isLt⟩]

variable (S : Fin 384 → EReal) (C : Fin 256 → EReal) (z : EReal)

/-- The greatest of the three groups of logits. -/
def top3 : EReal := max (max (Finset.univ.fold max ⊥ S) (Finset.univ.fold max ⊥ C)) z

/-- The sum of the exponentials of the three groups. -/
def den3 (M : EReal) : EReal := (∑ k, Ideal.exp (S k - M)) + (∑ l, Ideal.exp (C l - M)) + Ideal.exp (z - M)

variable {S C z}

/-- With no logit infinite and a real last one, the greatest is real. -/
theorem top3_real (hS : ∀ k, S k < ⊤) (hC : ∀ l, C l < ⊤) (hz : Real1 z) : Real1 (top3 S C z) := by
  refine real1_of (lt_of_lt_of_le hz.bot_lt (le_max_right _ _)) ?_
  refine max_lt (max_lt ?_ ?_) hz.lt_top
  · exact (Finset.sup_lt_iff (s := Finset.univ) (f := S) bot_lt_top).2 fun k _ => hS k
  · exact (Finset.sup_lt_iff (s := Finset.univ) (f := C) bot_lt_top).2 fun k _ => hC k

/-- The greatest of all logits in a row is the greatest of the three groups. -/
theorem top_eq {L : Fin 641 → EReal} (h1 : ∀ k : Fin 384, L ⟨k.val, by omega⟩ = S k)
    (h2 : ∀ l : Fin 256, L ⟨384 + l.val, by omega⟩ = C l) (h3 : L ⟨640, by omega⟩ = z) :
    max ⊥ (Finset.univ.fold max ⊥ L) = top3 S C z := by
  rw [max_eq_right bot_le]
  change Finset.univ.sup L = max (max (Finset.univ.sup S) (Finset.univ.sup C)) z
  refine le_antisymm (Finset.sup_le fun k _ => ?_) (max_le (max_le (Finset.sup_le fun k _ => ?_) (Finset.sup_le fun l _ => ?_)) ?_)
  · by_cases a : k.val < 384
    · rw [show k = ⟨(⟨k.val, a⟩ : Fin 384).val, by omega⟩ from rfl, h1]
      exact le_trans (Finset.le_sup (f := S) (Finset.mem_univ _)) (le_trans (le_max_left _ _) (le_max_left _ _))
    · by_cases b : k.val < 640
      · rw [show k = ⟨384 + (⟨k.val - 384, by omega⟩ : Fin 256).val, by omega⟩ from Fin.ext (show k.val = 384 + (k.val - 384) by omega), h2]
        exact le_trans (Finset.le_sup (f := C) (Finset.mem_univ _)) (le_trans (le_max_right _ _) (le_max_left _ _))
      · rw [show k = ⟨640, by omega⟩ from Fin.ext (show k.val = 640 by omega), h3]
        exact le_max_right _ _
  · rw [← h1]; exact Finset.le_sup (f := L) (Finset.mem_univ _)
  · rw [← h2]; exact Finset.le_sup (f := L) (Finset.mem_univ _)
  · rw [← h3]; exact Finset.le_sup (f := L) (Finset.mem_univ _)

/-- A sum over a row is the sum over its three groups. -/
theorem sum641 (f : Fin 641 → EReal) :
    ∑ k, f k = (∑ k : Fin 384, f ⟨k.val, by omega⟩) + (∑ l : Fin 256, f ⟨384 + l.val, by omega⟩) + f ⟨640, by omega⟩ := by
  rw [Fin.sum_univ_castSucc (n := 640) f]
  refine congrArg₂ (· + ·) ?_ rfl
  exact Fin.sum_univ_add (a := 384) (b := 256) fun k => f (Fin.castSucc k)

theorem exp_nonneg (x : EReal) : 0 ≤ Ideal.exp x := by
  induction x using EReal.rec with
  | bot => exact le_refl _
  | coe r => exact EReal.coe_nonneg.2 (Real.exp_pos r).le
  | top => exact le_top

/-- The sum of the exponentials is not zero. -/
theorem den3_ne {M : EReal} (hz : Real1 z) (hM : Real1 M) : den3 S C z M ≠ 0 := by
  have h : 0 < Ideal.exp (z - M) := by
    obtain ⟨a, rfl⟩ := hz
    obtain ⟨b, rfl⟩ := hM
    exact EReal.coe_pos.2 (Real.exp_pos (a - b))
  exact ne_of_gt (lt_of_lt_of_le h (le_add_of_nonneg_left (add_nonneg (Finset.sum_nonneg fun _ _ => exp_nonneg _) (Finset.sum_nonneg fun _ _ => exp_nonneg _))))

/-- Weights times the reciprocal of their sum, against the weights divided by it. -/
theorem mul_div_one (e D : EReal) (h : D ≠ 0) : e * Ideal.div 1 D = Ideal.div e D := by
  simp [Ideal.div, h]

/-- The two ways of taking the attention agree. A value whose logit is minus infinity does not count. -/
theorem soft {L : Fin 641 → EReal} (h1 : ∀ k : Fin 384, L ⟨k.val, by omega⟩ = S k)
    (h2 : ∀ l : Fin 256, L ⟨384 + l.val, by omega⟩ = C l) (h3 : L ⟨640, by omega⟩ = z)
    (hS : ∀ k, S k < ⊤) (hC : ∀ l, C l < ⊤) (hz : Real1 z) (V V' : Fin 384 → EReal) (W : Fin 256 → EReal)
    (hV : ∀ k, S k ≠ ⊥ → V k = V' k) :
    (∑ k, Ideal.exp (S k - top3 S C z) * Ideal.div 1 (den3 S C z (top3 S C z)) * V k)
        + (∑ l, Ideal.exp (C l - top3 S C z) * Ideal.div 1 (den3 S C z (top3 S C z)) * W l)
      = (∑ k : Fin 384, V' k * Ideal.div (Ideal.exp (L ⟨k.val, by omega⟩ - max ⊥ (Finset.univ.fold max ⊥ L)))
            (∑ k, Ideal.exp (L k - max ⊥ (Finset.univ.fold max ⊥ L))))
        + (∑ l : Fin 256, W l * Ideal.div (Ideal.exp (L ⟨384 + l.val, by omega⟩ - max ⊥ (Finset.univ.fold max ⊥ L)))
            (∑ k, Ideal.exp (L k - max ⊥ (Finset.univ.fold max ⊥ L)))) := by
  rw [top_eq h1 h2 h3]
  have hM := top3_real hS hC hz
  have hD : (∑ k, Ideal.exp (L k - top3 S C z)) = den3 S C z (top3 S C z) := by
    rw [sum641]
    simp only [h1, h2, h3, den3]
  rw [hD]
  have hne := den3_ne (S := S) (C := C) hz hM
  refine congrArg₂ (· + ·) (Finset.sum_congr rfl fun k _ => ?_) (Finset.sum_congr rfl fun l _ => ?_)
  · rw [h1, mul_div_one _ _ hne]
    by_cases hk : S k = ⊥
    · rw [hk, EReal.bot_sub]
      have e0 : Ideal.div (Ideal.exp ⊥) (den3 S C z (top3 S C z)) = 0 := by
        simp [Ideal.div, hne]
      rw [e0, zero_mul, mul_zero]
    · rw [hV k hk, mul_comm]
  · rw [h2, mul_div_one _ _ hne, mul_comm]

end Cert.KernelIdeal.WindowMath

end
-- ==== Proof.WindowMask.lean ====
/- The window attention's mask: which positions of a window are keys. -/
module

public import Idealize.ShloMosaic.Lib.Pointwise
public import Idealize.ShloMosaic.Lib.Claim

@[expose] public section

set_option maxRecDepth 16384

noncomputable section

open Idealize.ShloMosaic

namespace Cert.KernelIdeal.WindowRef

/-- A position of the window inside the sequence. -/
def inside (n k : ℕ) : BitVec 1 :=
  IntOp.andi
    (IntOp.cmpi CmpIPredicate.sge (IntOp.addi (IntOp.subi (IntOp.muli (BitVec.ofNat 32 n) 128#32) 128#32) (BitVec.ofNat 32 k)) 0#32)
    (IntOp.cmpi CmpIPredicate.slt (IntOp.addi (IntOp.subi (IntOp.muli (BitVec.ofNat 32 n) 128#32) 128#32) (BitVec.ofNat 32 k)) 8192#32)

/-- A position of the window near a query. -/
def near (a k : ℕ) : BitVec 1 :=
  IntOp.cmpi CmpIPredicate.sle (IntOp.absi (IntOp.subi (IntOp.subi (BitVec.ofNat 32 k) 128#32) (BitVec.ofNat 32 a))) 128#32

/-- What the comparisons say of a position. -/
theorem inside_eq : ∀ (n : Fin 64) (k : Fin 384), inside n.val k.val = 1#1 → 128 ≤ n.val * 128 + k.val ∧ n.val * 128 + k.val < 8320 := by
  decide +kernel

end Cert.KernelIdeal.WindowRef

end
-- ==== Proof.WindowRead.lean ====
/- The stages of the window attention's plain definition, read entry by entry. -/
module

public import proofs.«01_k».proof.Proof.WindowRef
public import proofs.«01_k».proof.Proof.WindowMath
public import proofs.«01_k».proof.Proof.WindowMask

@[expose] public section

set_option maxRecDepth 16384

noncomputable section

open Idealize.ShloMosaic Idealize.ShloMosaic.TcCoe Idealize.SL.Sem

namespace Cert.KernelIdeal.WindowRef

open Cert.KernelIdeal Cert.KernelIdeal.Gen Cert.KernelIdeal.WindowMath

variable (Q : FVec Ideal S16384x4608 .bf16) (C : FVec Ideal S512x4608 .bf16) (Z : FVec Ideal S8 .f32)

theorem qH_at (b : Fin 2) (n : Fin 64) (a : Fin 128) (v : Fin 2) (g : Fin 4) (d : Fin 128) :
    qH Q (ix6 b n a v g d) = rd Q (b.val * 8192 + n.val * 128 + a.val) (v.val * 512 + g.val * 128 + d.val) := by
  pointwise [qH]
  refine (rd_eq Q _ _).trans ?_
  exact congrArg (fun R => rd Q R _) (Nat.add_assoc _ _ _).symm

theorem cK_at (b : Fin 2) (l : Fin 256) (v : Fin 2) (d : Fin 128) :
    cK C (ix4 b l v d) = rd C (b.val * 256 + l.val) (1024 + (v.val * 128 + d.val)) := by
  pointwise [cK]
  exact rd_eq C _ _

theorem cV_at (b : Fin 2) (l : Fin 256) (v : Fin 2) (d : Fin 128) :
    cV C (ix4 b l v d) = rd C (b.val * 256 + l.val) (1280 + (v.val * 128 + d.val)) := by
  pointwise [cV]
  exact rd_eq C _ _

/-- A padded block's key inside the sequence. -/
theorem kP_at (b : Fin 2) (n : Fin 66) (a : Fin 128) (v : Fin 2) (d : Fin 128) (s : ℕ) (hs : n.val * 128 + a.val = 128 + s) (h : s < 8192) :
    kP Q (ix5 b n a v d) = rd Q (b.val * 8192 + s) (1024 + (v.val * 128 + d.val)) := by
  obtain rfl : s = n.val * 128 + a.val - 128 := by omega
  pointwise [kP]
  rw [dif_pos ⟨by omega, h⟩]
  exact rd_eq Q _ _

/-- A padded block's value inside the sequence. -/
theorem vP_at (b : Fin 2) (n : Fin 66) (a : Fin 128) (v : Fin 2) (d : Fin 128) (s : ℕ) (hs : n.val * 128 + a.val = 128 + s) (h : s < 8192) :
    vP Q (ix5 b n a v d) = rd Q (b.val * 8192 + s) (1280 + (v.val * 128 + d.val)) := by
  obtain rfl : s = n.val * 128 + a.val - 128 := by omega
  pointwise [vP]
  rw [dif_pos ⟨by omega, h⟩]
  exact rd_eq Q _ _

/-- A key inside the sequence, in the window of a block. -/
theorem kW_at (b : Fin 2) (n : Fin 64) (k : Fin 384) (v : Fin 2) (d : Fin 128) (h : 128 ≤ n.val * 128 + k.val ∧ n.val * 128 + k.val < 8320) :
    kW Q (ix5 b n k v d) = rd Q (b.val * 8192 + (n.val * 128 + k.val - 128)) (1024 + (v.val * 128 + d.val)) := by
  pointwise [kW]
  by_cases h1 : k.val < 128
  · rw [dif_pos h1]
    exact kP_at Q b _ _ v d _ (by dsimp only; omega) (by omega)
  · rw [dif_neg h1]
    by_cases h2 : k.val - 128 < 128
    · rw [dif_pos h2]
      exact kP_at Q b _ _ v d _ (by dsimp only; omega) (by omega)
    · rw [dif_neg h2]
      exact kP_at Q b _ _ v d _ (by dsimp only; omega) (by omega)

/-- A value inside the sequence, in the window of a block. -/
theorem vW_at (b : Fin 2) (n : Fin 64) (k : Fin 384) (v : Fin 2) (d : Fin 128) (h : 128 ≤ n.val * 128 + k.val ∧ n.val * 128 + k.val < 8320) :
    vW Q (ix5 b n k v d) = rd Q (b.val * 8192 + (n.val * 128 + k.val - 128)) (1280 + (v.val * 128 + d.val)) := by
  pointwise [vW]
  by_cases h1 : k.val < 128
  · rw [dif_pos h1]
    exact vP_at Q b _ _ v d _ (by dsimp only; omega) (by omega)
  · rw [dif_neg h1]
    by_cases h2 : k.val - 128 < 128
    · rw [dif_pos h2]
      exact vP_at Q b _ _ v d _ (by dsimp only; omega) (by omega)
    · rw [dif_neg h2]
      exact vP_at Q b _ _ v d _ (by dsimp only; omega) (by omega)

theorem mask_at (n : Fin 64) (a : Fin 128) (k : Fin 384) : mask (ix3 n a k) = IntOp.andi (near a.val k.val) (inside n.val k.val) := by
  pointwise [mask]
  rfl

theorem mask_one (n : Fin 64) (a : Fin 128) (k : Fin 384) (h : mask (ix3 n a k) = 1#1) : 128 ≤ n.val * 128 + k.val ∧ n.val * 128 + k.val < 8320 := by
  rw [mask_at] at h
  refine inside_eq n k ?_
  have : ∀ p q : BitVec 1, IntOp.andi p q = 1#1 → q = 1#1 := by decide
  exact this _ _ h

theorem sLoc_at (b : Fin 2) (v : Fin 2) (g : Fin 4) (n : Fin 64) (a : Fin 128) (k : Fin 384) :
    sLoc Q (ix6 b v g n a k) = if mask (ix3 n a k) = 1#1 then
      (∑ x : Fin 128, rd Q (b.val * 8192 + n.val * 128 + a.val) (v.val * 512 + g.val * 128 + x.val)
        * rd Q (b.val * 8192 + (n.val * 128 + k.val - 128)) (1024 + (v.val * 128 + x.val))) * Ideal.ofBits .f32 0x3DB504F3#32 else ⊥ := by
  pointwise [sLoc]
  by_cases h : mask (ix3 n a k) = 1#1
  · rw [if_pos h, h]
    refine Ideal.mul_congr (Finset.sum_congr rfl fun x _ => ?_) rfl
    rw [mul_comm]
    exact Ideal.mul_congr (qH_at Q b n a v g x) (kW_at Q b n k v x (mask_one n a k h))
  · rw [if_neg h]
    have : ∀ p : BitVec 1, p ≠ 1#1 → p = 0#1 := by decide
    rw [this _ h]
    exact ofBits_bot

theorem sCtx_at (b : Fin 2) (v : Fin 2) (g : Fin 4) (n : Fin 64) (a : Fin 128) (k : Fin 256) :
    sCtx Q C (ix6 b v g n a k)
      = (∑ x : Fin 128, rd Q (b.val * 8192 + n.val * 128 + a.val) (v.val * 512 + g.val * 128 + x.val)
        * rd C (b.val * 256 + k.val) (1024 + (v.val * 128 + x.val))) * Ideal.ofBits .f32 0x3DB504F3#32 := by
  pointwise [sCtx]
  refine Ideal.mul_congr (Finset.sum_congr rfl fun x _ => ?_) rfl
  rw [mul_comm]
  exact Ideal.mul_congr (qH_at Q b n a v g x) (cK_at C b k v x)

theorem sAll_loc (b : Fin 2) (v : Fin 2) (g : Fin 4) (n : Fin 64) (a : Fin 128) (k : Fin 384) :
    sAll Q C Z (ix6 b v g n a ⟨k.val, by omega⟩) = sLoc Q (ix6 b v g n a k) := by
  pointwise [sAll]

theorem sAll_ctx (b : Fin 2) (v : Fin 2) (g : Fin 4) (n : Fin 64) (a : Fin 128) (k : Fin 256) :
    sAll Q C Z (ix6 b v g n a ⟨384 + k.val, by omega⟩) = sCtx Q C (ix6 b v g n a k) := by
  pointwise [sAll]

theorem sAll_sink (b : Fin 2) (v : Fin 2) (g : Fin 4) (n : Fin 64) (a : Fin 128) :
    sAll Q C Z (ix6 b v g n a ⟨640, by omega⟩) = Z (ix1 ⟨v.val * 4 + g.val, by omega⟩) := by
  pointwise [sAll]
  all_goals rfl

/-- The entries of an array that a reduction over its last axis takes together. -/
theorem fiber {n0 n1 n2 n3 n4 n5 : ℕ} (h : (⟨6, ![n0, n1, n2, n3, n4, n5]⟩ : Shape).ReducesTo [5] ⟨5, ![n0, n1, n2, n3, n4]⟩)
    (i0 : Fin n0) (i1 : Fin n1) (i2 : Fin n2) (i3 : Fin n3) (i4 : Fin n4) (i : (⟨6, ![n0, n1, n2, n3, n4, n5]⟩ : Shape).Idx) :
    h.drop i = ix5 i0 i1 i2 i3 i4 ↔ ∃ k : Fin n5, ix6 i0 i1 i2 i3 i4 k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl
    | ⟨4, _⟩ => rfl

/-- A reduction by the maximum over an array's last axis. -/
theorem reduce_max {n0 n1 n2 n3 n4 n5 : ℕ} {u : Shape} (x : FVec Ideal ⟨6, ![n0, n1, n2, n3, n4, n5]⟩ .f32) (init : FVec Ideal u .f32)
    (h : (⟨6, ![n0, n1, n2, n3, n4, n5]⟩ : Shape).ReducesTo [5] ⟨5, ![n0, n1, n2, n3, n4]⟩) (hu : 0 < u.numel)
    (i0 : Fin n0) (i1 : Fin n1) (i2 : Fin n2) (i3 : Fin n3) (i4 : Fin n4) :
    Host.reduce FloatOps.maximumf x init h hu (ix5 i0 i1 i2 i3 i4)
      = Finset.univ.fold max (init (Shape.Idx.first hu)) fun k => x (ix6 i0 i1 i2 i3 i4 k) :=
  (Host.reduce_eq_fold _ x init h hu _).trans
    (Finset.fold_filter_eq_fold_of_fiber _ _ (fun k : Fin n5 => ix6 i0 i1 i2 i3 i4 k) (fun _ _ e => congrFun e 5) (fiber h i0 i1 i2 i3 i4) _ x)

/-- The maximum, entry by entry, of an array of a constant and a reduction by the maximum from that constant. -/
theorem max_reduce {n0 n1 n2 n3 n4 n5 : ℕ} {u : Shape} (x : FVec Ideal ⟨6, ![n0, n1, n2, n3, n4, n5]⟩ .f32) (init : FVec Ideal u .f32)
    (A : FVec Ideal ⟨5, ![n0, n1, n2, n3, n4]⟩ .f32)
    (h : (⟨6, ![n0, n1, n2, n3, n4, n5]⟩ : Shape).ReducesTo [5] ⟨5, ![n0, n1, n2, n3, n4]⟩) (hu : 0 < u.numel) (hA : ∀ j, A j = ⊥) (hi : ∀ j, init j = ⊥)
    (i0 : Fin n0) (i1 : Fin n1) (i2 : Fin n2) (i3 : Fin n3) (i4 : Fin n4) :
    maximumf A (Host.reduce FloatOps.maximumf x init h hu) (ix5 i0 i1 i2 i3 i4)
      = max ⊥ (Finset.univ.fold max ⊥ fun k => x (ix6 i0 i1 i2 i3 i4 k)) :=
  (congrFun (congrFun Ideal.maximumf_eq_max _) _).trans
    (congrArg₂ max (hA _) ((reduce_max x init h hu i0 i1 i2 i3 i4).trans (by rw [hi])))

/-- The greatest logit of a query. -/
theorem mx_at (b : Fin 2) (v : Fin 2) (g : Fin 4) (n : Fin 64) (a : Fin 128) :
    mx Q C Z (ix5 b v g n a) = max ⊥ (Finset.univ.fold max ⊥ fun k => sAll Q C Z (ix6 b v g n a k)) :=
  max_reduce (sAll Q C Z) _ _ _ _ (fun _ => ofBits_bot) (fun _ => ofBits_bot) b v g n a

theorem ex_at (b : Fin 2) (v : Fin 2) (g : Fin 4) (n : Fin 64) (a : Fin 128) (k : Fin 641) :
    ex Q C Z (ix6 b v g n a k) = Ideal.exp (sAll Q C Z (ix6 b v g n a k) - mx Q C Z (ix5 b v g n a)) := by
  pointwise [ex]

/-- The sum of a query's exponentials. -/
theorem dn_at (b : Fin 2) (v : Fin 2) (g : Fin 4) (n : Fin 64) (a : Fin 128) :
    dn Q C Z (ix5 b v g n a) = ∑ k, ex Q C Z (ix6 b v g n a k) := by
  unfold dn
  generalize ex Q C Z = L
  pointwise
  rw [Ideal.hostReduceAdd, zero_add]
  exact Finset.sum_filter_eq_sum_of_fiber _ (fun k : Fin 641 => ix6 b v g n a k) (fun _ _ e => congrFun e 5)
    (fiber _ b v g n a) L

theorem pr_at (b : Fin 2) (v : Fin 2) (g : Fin 4) (n : Fin 64) (a : Fin 128) (k : Fin 641) :
    pr Q C Z (ix6 b v g n a k) = Ideal.div (ex Q C Z (ix6 b v g n a k)) (dn Q C Z (ix5 b v g n a)) := by
  pointwise [pr]

/-- The output's formula at a sequence, block, query, two numbers of its head and a column. -/
def out (b : Fin 2) (n : Fin 64) (a : Fin 128) (v : Fin 2) (g : Fin 4) (d : Fin 128) : EReal :=
  (∑ k : Fin 384, vW Q (ix5 b n k v d) * pr Q C Z (ix6 b v g n a ⟨k.val, by omega⟩))
    + (∑ l : Fin 256, cV C (ix4 b l v d) * pr Q C Z (ix6 b v g n a ⟨384 + l.val, by omega⟩))

theorem REF_out (R : Fin 16384) (K : Fin 1024) :
    REF Q C Z (ix2 R K) = out Q C Z ⟨R.val / 8192, by omega⟩ ⟨R.val / 128 % 64, by omega⟩ ⟨R.val % 128, by omega⟩ ⟨K.val / 512, by omega⟩
      ⟨K.val / 128 % 4, by omega⟩ ⟨K.val % 128, by omega⟩ := by
  pointwise [REF]
  rfl

/-- The plain definition at the place of head `v * 4 + g` of query `a` of block `n` of sequence `b`. -/
theorem REF_at (b : Fin 2) (n : Fin 64) (a : Fin 128) (v : Fin 2) (g : Fin 4) (d : Fin 128) (R : Fin 16384) (K : Fin 1024)
    (hR : R.val = b.val * 8192 + n.val * 128 + a.val) (hK : K.val = v.val * 512 + g.val * 128 + d.val) :
    REF Q C Z (ix2 R K) = out Q C Z b n a v g d := by
  have e1 : (⟨R.val / 8192, by omega⟩ : Fin 2) = b := Fin.ext (show R.val / 8192 = b.val by omega)
  have e2 : (⟨R.val / 128 % 64, by omega⟩ : Fin 64) = n := Fin.ext (show R.val / 128 % 64 = n.val by omega)
  have e3 : (⟨R.val % 128, by omega⟩ : Fin 128) = a := Fin.ext (show R.val % 128 = a.val by omega)
  have e4 : (⟨K.val / 512, by omega⟩ : Fin 2) = v := Fin.ext (show K.val / 512 = v.val by omega)
  have e5 : (⟨K.val / 128 % 4, by omega⟩ : Fin 4) = g := Fin.ext (show K.val / 128 % 4 = g.val by omega)
  have e6 : (⟨K.val % 128, by omega⟩ : Fin 128) = d := Fin.ext (show K.val % 128 = d.val by omega)
  rw [REF_out, e1, e2, e3, e4, e5, e6]

end Cert.KernelIdeal.WindowRef

end
-- ==== Proof.WindowCore.lean ====
/- The window attention (Kernel): what one head of one block comes to, from what the block's operands hold. -/
module

public import proofs.«01_k».proof.Proof.WindowRead
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.WindowCore

open Cert.KernelIdeal Cert.KernelIdeal.Gen Cert.KernelIdeal.WindowMath Cert.KernelIdeal.WindowRef

/-- The remainder of a row by 128, as the kernel takes it. -/
theorem qrow : ∀ r : Fin 512, (Scalar.select
                (IntOp.andi
                  (IntOp.xori
                    (IntOp.cmpi CmpIPredicate.slt
                      (IntOp.remsi ArithUnit.vector (BitVec.ofNat 32 r.val)
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector (BitVec.ofNat 32 r.val)
                      (Scalar.select (Scalar.cmpi CmpIPredicate.eq 128#32 0#32) 1#32 128#32))
                    0#32))
                (IntOp.addi
                  (IntOp.remsi ArithUnit.vector (BitVec.ofNat 32 r.val)
                    (Scalar.select (Scalar.cmpi CmpIPredicate.eq 128#32 0#32) 1#32 128#32))
                  (Scalar.select (Scalar.cmpi CmpIPredicate.eq 128#32 0#32) 1#32 128#32))
                (IntOp.remsi ArithUnit.vector (BitVec.ofNat 32 r.val)
                  (Scalar.select (Scalar.cmpi CmpIPredicate.eq 128#32 0#32) 1#32 128#32))) = BitVec.ofNat 32 (r.val % 128) := by
  decide +kernel

/-- The first position of a block's window, as the kernel and as the plain definition take it. -/
theorem qpos : ∀ n : Fin 64, Scalar.muli (Scalar.subi (BitVec.ofNat 32 n.val) 1#32) 128#32 = IntOp.subi (IntOp.muli (BitVec.ofNat 32 n.val) 128#32) 128#32 := by
  decide +kernel

/-- The kernel's mask is the plain definition's. -/
theorem pay1_at (i : grid0.Coords) (n : Fin 64) (a : Fin 128) (g : Fin 4) (r : Fin 512) (k : Fin 384) (hi : (i 1).val = n.val) (hr : r.val = g.val * 128 + a.val) :
    k0_pay1 i (ix2 r k) = mask (ix3 n a k) := by
  have hra : r.val % 128 = a.val := by omega
  rw [mask_at]
  pointwise [k0_pay1]
  rw [qrow r, hra, hi, qpos n]
  exact BitVec.and_assoc _ _ _

/-- Four heads' queries, one under another. -/
theorem pay4_at (q0 q1 q2 q3 : Vec Ideal S128x128 .bf16) (g : Fin 4) (a d : Fin 128) (r : Fin 512) (hr : r.val = g.val * 128 + a.val) :
    k0_pay4 q0 q1 q2 q3 (ix2 r d) = ![q0, q1, q2, q3] g (ix2 a d) := by
  pointwise [k0_pay4]
  match g with
  | ⟨0, _⟩ =>
    have e : r.val = 0 * 128 + a.val := hr
    rw [dif_pos (by omega)]
    exact congrArg (fun x => q0 (ix2 x d)) (Fin.ext (by dsimp only; omega))
  | ⟨1, _⟩ =>
    have e : r.val = 1 * 128 + a.val := hr
    rw [dif_neg (by omega), dif_pos (by omega)]
    exact congrArg (fun x => q1 (ix2 x d)) (Fin.ext (by dsimp only; omega))
  | ⟨2, _⟩ =>
    have e : r.val = 2 * 128 + a.val := hr
    rw [dif_neg (by omega), dif_neg (by omega), dif_pos (by omega)]
    exact congrArg (fun x => q2 (ix2 x d)) (Fin.ext (by dsimp only; omega))
  | ⟨3, _⟩ =>
    have e : r.val = 3 * 128 + a.val := hr
    rw [dif_neg (by omega), dif_neg (by omega), dif_neg (by omega)]
    exact congrArg (fun x => q3 (ix2 x d)) (Fin.ext (by dsimp only; omega))

/-- Four heads' sinks, one under another. -/
theorem pay5_at (z0 z1 z2 z3 : Elt Ideal .f32) (g : Fin 4) (a : Fin 128) (r : Fin 512) (hr : r.val = g.val * 128 + a.val) :
    k0_pay5 z0 z1 z2 z3 (ix2 r 0) = ![z0, z1, z2, z3] g := by
  pointwise [k0_pay5]
  match g with
  | ⟨0, _⟩ =>
    have e : r.val = 0 * 128 + a.val := hr
    rw [dif_pos (by omega)]
    rfl
  | ⟨1, _⟩ =>
    have e : r.val = 1 * 128 + a.val := hr
    rw [dif_neg (by omega), dif_pos (by omega)]
    rfl
  | ⟨2, _⟩ =>
    have e : r.val = 2 * 128 + a.val := hr
    rw [dif_neg (by omega), dif_neg (by omega), dif_pos (by omega)]
    rfl
  | ⟨3, _⟩ =>
    have e : r.val = 3 * 128 + a.val := hr
    rw [dif_neg (by omega), dif_neg (by omega), dif_neg (by omega)]
    rfl

/-- Three blocks that hold, inside the sequence, a block's rows and its neighbours', from a column `L` on. -/
def Blocks (Q : FVec Ideal S16384x4608 .bf16) (b : Fin 2) (n : Fin 64) (L : ℕ) (k0 k1 k2 : Vec Ideal S128x128 .bf16) : Prop :=
  (0 < n.val → ∀ r d : Fin 128, k0 (ix2 r d) = rd Q (b.val * 8192 + (n.val * 128 + r.val - 128)) (L + d.val))
  ∧ (∀ r d : Fin 128, k1 (ix2 r d) = rd Q (b.val * 8192 + (n.val * 128 + r.val)) (L + d.val))
  ∧ (n.val < 63 → ∀ r d : Fin 128, k2 (ix2 r d) = rd Q (b.val * 8192 + (n.val * 128 + 128 + r.val)) (L + d.val))

/-- Three such blocks, one under another, hold the window's rows inside the sequence. -/
theorem pay2_at (Q : FVec Ideal S16384x4608 .bf16) (b : Fin 2) (n : Fin 64) (L : ℕ) (k0 k1 k2 : Vec Ideal S128x128 .bf16)
    (h : Blocks Q b n L k0 k1 k2) (k : Fin 384) (d : Fin 128) (hk : 128 ≤ n.val * 128 + k.val ∧ n.val * 128 + k.val < 8320) :
    k0_pay2 k0 k1 k2 (ix2 k d) = rd Q (b.val * 8192 + (n.val * 128 + k.val - 128)) (L + d.val) := by
  pointwise [k0_pay2]
  by_cases h1 : k.val < 128
  · rw [dif_pos h1]
    exact h.1 (by omega) _ d
  · rw [dif_neg h1]
    by_cases h2 : k.val - 128 < 128
    · rw [dif_pos h2]
      refine (h.2.1 _ d).trans (congrArg (fun R => rd Q R _) ?_)
      dsimp only
      omega
    · rw [dif_neg h2]
      refine (h.2.2 (by omega) _ d).trans (congrArg (fun R => rd Q R _) ?_)
      dsimp only
      omega

/-- A head's output of the first four, from its operands. -/
def att (mk : IVec S512x384 1) (k37 v41 : FVec Ideal S384x128 .bf16) (q0 q1 q2 q3 : Vec Ideal S128x128 .bf16) (z0 z1 z2 z3 : Elt Ideal .f32)
    (ck cv : Vec Ideal S256x128 .bf16) : FVec Ideal S512x128 .f32 :=
  k0_pay10 v41 (k0_pay5 z0 z1 z2 z3) (k0_pay7 q0 q1 q2 q3 ck) (k0_pay8 mk k37 q0 q1 q2 q3 z0 z1 z2 z3 ck) (k0_pay9 mk k37 q0 q1 q2 q3 z0 z1 z2 z3 ck) cv

/-- The second four heads' output is taken the same way. -/
theorem att_second (mk : IVec S512x384 1) (k0 k1 k2 v0 v1 v2 q0 q1 q2 q3 : Vec Ideal S128x128 .bf16) (z0 z1 z2 z3 : Elt Ideal .f32)
    (ck cv : Vec Ideal S256x128 .bf16) :
    k0_pay21 (k0_pay15 v0 v1 v2) (k0_pay17 z0 z1 z2 z3) (k0_pay18 mk k0 k1 k2 q0 q1 q2 q3) (k0_pay19 q0 q1 q2 q3 ck)
        (k0_pay20 mk k0 k1 k2 q0 q1 q2 q3) cv
      = att mk (k0_pay2 k0 k1 k2) (k0_pay2 v0 v1 v2) q0 q1 q2 q3 z0 z1 z2 z3 ck cv := by
  rfl

/-- A head's output is the attention over its logits. -/
theorem att_at (mk : IVec S512x384 1) (k37 v41 : FVec Ideal S384x128 .bf16) (q0 q1 q2 q3 : Vec Ideal S128x128 .bf16) (z0 z1 z2 z3 : Elt Ideal .f32)
    (ck cv : Vec Ideal S256x128 .bf16) (r : Fin 512) (d : Fin 128) (S : Fin 384 → EReal) (C : Fin 256 → EReal) (z : EReal)
    (hS : ∀ k, k0_pay6 mk k37 q0 q1 q2 q3 (ix2 r k) = S k) (hC : ∀ l, k0_pay7 q0 q1 q2 q3 ck (ix2 r l) = C l)
    (hz : k0_pay5 z0 z1 z2 z3 (ix2 r 0) = z) :
    att mk k37 v41 q0 q1 q2 q3 z0 z1 z2 z3 ck cv (ix2 r d)
      = (∑ k, Ideal.exp (S k - top3 S C z) * Ideal.div 1 (den3 S C z (top3 S C z)) * v41 (ix2 k d))
        + (∑ l, Ideal.exp (C l - top3 S C z) * Ideal.div 1 (den3 S C z (top3 S C z)) * cv (ix2 l d)) := by
  pointwise [att, k0_pay10, k0_pay9, k0_pay8]
  simp only [hS, hC, hz, ofBits_bot]
  rfl

/-- A head's output at a query and a column is the plain definition's, when its operands hold the rows of the block's queries, of its
    window and of its context, and the keys, the queries and the sinks are real. -/
theorem core (Q : FVec Ideal S16384x4608 .bf16) (C : FVec Ideal S512x4608 .bf16) (Z : FVec Ideal S8 .f32)
    (hQ : ∀ R L, L < 1280 → Real1 (rd Q R L)) (hC : ∀ R L, 1024 ≤ L → L < 1280 → Real1 (rd C R L)) (hZ : ∀ h, Real1 (Z (ix1 h)))
    (b : Fin 2) (n : Fin 64) (v : Fin 2) (g : Fin 4) (a d : Fin 128) (r : Fin 512) (hr : r.val = g.val * 128 + a.val)
    (mk : IVec S512x384 1) (k0 k1 k2 v0 v1 v2 q0 q1 q2 q3 : Vec Ideal S128x128 .bf16) (z0 z1 z2 z3 : Elt Ideal .f32)
    (ck cv : Vec Ideal S256x128 .bf16)
    (hm : ∀ k, mk (ix2 r k) = mask (ix3 n a k))
    (hk : Blocks Q b n (1024 + v.val * 128) k0 k1 k2) (hv : Blocks Q b n (1280 + v.val * 128) v0 v1 v2)
    (hq : ∀ (g : Fin 4) (a d : Fin 128), ![q0, q1, q2, q3] g (ix2 a d) = rd Q (b.val * 8192 + n.val * 128 + a.val) (v.val * 512 + g.val * 128 + d.val))
    (hz : ∀ g : Fin 4, ![z0, z1, z2, z3] g = Z (ix1 ⟨v.val * 4 + g.val, by omega⟩))
    (hck : ∀ (l : Fin 256) (d : Fin 128), ck (ix2 l d) = rd C (b.val * 256 + l.val) (1024 + v.val * 128 + d.val))
    (hcv : ∀ (l : Fin 256) (d : Fin 128), cv (ix2 l d) = rd C (b.val * 256 + l.val) (1280 + v.val * 128 + d.val)) :
    att mk (k0_pay2 k0 k1 k2) (k0_pay2 v0 v1 v2) q0 q1 q2 q3 z0 z1 z2 z3 ck cv (ix2 r d) = out Q C Z b n a v g d := by
  have eS : ∀ k, k0_pay6 mk (k0_pay2 k0 k1 k2) q0 q1 q2 q3 (ix2 r k) = sLoc Q (ix6 b v g n a k) := by
    intro k
    rw [sLoc_at]
    pointwise [k0_pay6]
    rw [hm k]
    by_cases h : mask (ix3 n a k) = 1#1
    · rw [if_pos h, h]
      refine Ideal.mul_congr (Finset.sum_congr rfl fun x _ => ?_) rfl
      refine Ideal.mul_congr ((pay4_at q0 q1 q2 q3 g a x r hr).trans (hq g a x)) ?_
      refine (pay2_at Q b n _ k0 k1 k2 hk k x (mask_one n a k h)).trans ?_
      rw [Nat.add_assoc]
    · rw [if_neg h]
      have e0 : ∀ p : BitVec 1, p ≠ 1#1 → p = 0#1 := by decide
      rw [e0 _ h]
      exact ofBits_bot
  have eC : ∀ l, k0_pay7 q0 q1 q2 q3 ck (ix2 r l) = sCtx Q C (ix6 b v g n a l) := by
    intro l
    rw [sCtx_at]
    pointwise [k0_pay7]
    refine Ideal.mul_congr (Finset.sum_congr rfl fun x _ => ?_) rfl
    refine Ideal.mul_congr ((pay4_at q0 q1 q2 q3 g a x r hr).trans (hq g a x)) ?_
    rw [hck l x, Nat.add_assoc]
  have ez : k0_pay5 z0 z1 z2 z3 (ix2 r 0) = Z (ix1 ⟨v.val * 4 + g.val, by omega⟩) := (pay5_at z0 z1 z2 z3 g a r hr).trans (hz g)
  rw [att_at _ _ _ _ _ _ _ _ _ _ _ _ _ r d _ _ _ eS eC ez]
  refine (soft (L := fun k => sAll Q C Z (ix6 b v g n a k)) (sAll_loc Q C Z b v g n a) (sAll_ctx Q C Z b v g n a) (sAll_sink Q C Z b v g n a)
    ?_ ?_ (hZ _) _ (fun k => vW Q (ix5 b n k v d)) _ ?_).trans ?_
  · intro k
    rw [sLoc_at]
    split_ifs
    · exact ((Real1.sum fun x => (hQ _ _ (by omega)).mul (hQ _ _ (by omega))).mul real1_scale).lt_top
    · exact bot_lt_top
  · intro l
    rw [sCtx_at]
    exact ((Real1.sum fun x => (hQ _ _ (by omega)).mul (hC _ _ (by omega) (by omega))).mul real1_scale).lt_top
  · intro k hne
    rw [sLoc_at] at hne
    by_cases h : mask (ix3 n a k) = 1#1
    · have hk' := mask_one n a k h
      refine (pay2_at Q b n _ v0 v1 v2 hv k d hk').trans ?_
      rw [vW_at Q b n k v d hk', Nat.add_assoc]
    · exact absurd (if_neg h) hne
  · unfold out
    refine congrArg₂ (· + ·) (Finset.sum_congr rfl fun k _ => ?_) (Finset.sum_congr rfl fun l _ => ?_)
    · rw [pr_at, dn_at]
      simp only [ex_at, mx_at]
    · rw [pr_at, dn_at, hcv, cV_at, Nat.add_assoc]
      simp only [ex_at, mx_at]

end Cert.KernelIdeal.WindowCore

end
-- ==== Proof.WindowValue.lean ====
/- The window attention (Kernel): what the array of results holds after the run. -/
module

public import proofs.«01_k».proof.Proof.Gen.KernelIdeal.Value
public import proofs.«01_k».proof.Proof.WindowCore
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.WindowValue

open Cert.KernelIdeal Cert.KernelIdeal.Gen

variable (m : (ℓ : Loc nD τ sig) → Buf (Elt Ideal) ℓ)

open Cert.KernelIdeal.WindowMath Cert.KernelIdeal.WindowRef Cert.KernelIdeal.WindowCore

/-- Each window's block index at every grid point, and the point's coordinates. -/
theorem idx : ∀ t : Fin cfg0.N, win0_1.index t = ![t.val, 0]
    ∧ win0_2.index t = ![t.val / 64 * 64 + (t.val % 64 - 1), 4] ∧ win0_3.index t = ![t.val, 4] ∧ win0_4.index t = ![t.val / 64 * 64 + min (t.val % 64 + 1) 63, 4]
    ∧ win0_5.index t = ![t.val / 64 * 64 + (t.val % 64 - 1), 5] ∧ win0_6.index t = ![t.val, 5] ∧ win0_7.index t = ![t.val / 64 * 64 + min (t.val % 64 + 1) 63, 5]
    ∧ win0_8.index t = ![t.val / 64, 4] ∧ win0_9.index t = ![t.val / 64, 5] ∧ win0_0.index t = ![0]
    ∧ win0_10.index t = ![t.val, 0] ∧ t.val < 128 ∧ (grid0.coords t 1).val = t.val % 64 :=
  (by decide +kernel : ∀ t : Fin grid0.N, _)

/-- The block of queries, read off the array. -/
theorem blk1 (c : Dev nD) (t : Fin cfg0.N) (r : Fin 128) (k : Fin 1024) (R L : ℕ) (hR : R = t.val * 128 + r.val) (hL : L = k.val) :
    X0_1 m c t (ix2 r k) = rd (m ((c : Thread nD τ).loc main_arg0)) R L := by
  have hN := (idx t).2.2.2.2.2.2.2.2.2.2.2.1
  have e : X0_1 m c t (ix2 r k) = m ((c : Thread nD τ).loc main_arg0) (ix2 ⟨t.val * 128 + r.val, by omega⟩ ⟨k.val, by omega⟩) := by
    unfold X0_1 Pipeline.Window.fill
    rw [dif_pos (moved0_1 t _)]
    blk_ext [iblk, V, V_main_arg0, idx t]
  subst hR hL
  exact e.trans (rd_eq _ _ _)

/-- The sinks, read off the array. -/
theorem blk0 (c : Dev nD) (t : Fin cfg0.N) (k : Fin 8) : iblk m c 0 t (ix1 k) = m ((c : Thread nD τ).loc main_arg2) (ix1 k) := by
  blk_ext [iblk, V, V_main_arg2, idx t]

/-- A block of the window's keys and values, read off the array: the block before, the query's own, the block after. -/
theorem rowsP (c : Dev nD) (t : Fin cfg0.N) (r : Fin 128) (k : Fin 256) (R L : ℕ) (hR : R = (t.val / 64 * 64 + (t.val % 64 - 1)) * 128 + r.val) :
    (L = 1024 + k.val → iblk m c 2 t (ix2 r k) = rd (m ((c : Thread nD τ).loc main_arg0)) R L)
    ∧ (L = 1280 + k.val → iblk m c 5 t (ix2 r k) = rd (m ((c : Thread nD τ).loc main_arg0)) R L) := by
  have hN := (idx t).2.2.2.2.2.2.2.2.2.2.2.1
  have e2 : iblk m c 2 t (ix2 r k) = m ((c : Thread nD τ).loc main_arg0) (ix2 ⟨(t.val / 64 * 64 + (t.val % 64 - 1)) * 128 + r.val, by omega⟩ ⟨1024 + k.val, by omega⟩) := by
    blk_ext [iblk, V, V_main_arg0, idx t]
  have e5 : iblk m c 5 t (ix2 r k) = m ((c : Thread nD τ).loc main_arg0) (ix2 ⟨(t.val / 64 * 64 + (t.val % 64 - 1)) * 128 + r.val, by omega⟩ ⟨1280 + k.val, by omega⟩) := by
    blk_ext [iblk, V, V_main_arg0, idx t]
  subst hR
  exact ⟨fun h => by subst h; exact e2.trans (rd_eq _ _ _), fun h => by subst h; exact e5.trans (rd_eq _ _ _)⟩

theorem rowsO (c : Dev nD) (t : Fin cfg0.N) (r : Fin 128) (k : Fin 256) (R L : ℕ) (hR : R = t.val * 128 + r.val) :
    (L = 1024 + k.val → iblk m c 3 t (ix2 r k) = rd (m ((c : Thread nD τ).loc main_arg0)) R L)
    ∧ (L = 1280 + k.val → iblk m c 6 t (ix2 r k) = rd (m ((c : Thread nD τ).loc main_arg0)) R L) := by
  have hN := (idx t).2.2.2.2.2.2.2.2.2.2.2.1
  have e2 : iblk m c 3 t (ix2 r k) = m ((c : Thread nD τ).loc main_arg0) (ix2 ⟨t.val * 128 + r.val, by omega⟩ ⟨1024 + k.val, by omega⟩) := by
    blk_ext [iblk, V, V_main_arg0, idx t]
  have e5 : iblk m c 6 t (ix2 r k) = m ((c : Thread nD τ).loc main_arg0) (ix2 ⟨t.val * 128 + r.val, by omega⟩ ⟨1280 + k.val, by omega⟩) := by
    blk_ext [iblk, V, V_main_arg0, idx t]
  subst hR
  exact ⟨fun h => by subst h; exact e2.trans (rd_eq _ _ _), fun h => by subst h; exact e5.trans (rd_eq _ _ _)⟩

theorem rowsN (c : Dev nD) (t : Fin cfg0.N) (r : Fin 128) (k : Fin 256) (R L : ℕ) (hR : R = (t.val / 64 * 64 + min (t.val % 64 + 1) 63) * 128 + r.val) :
    (L = 1024 + k.val → iblk m c 4 t (ix2 r k) = rd (m ((c : Thread nD τ).loc main_arg0)) R L)
    ∧ (L = 1280 + k.val → iblk m c 7 t (ix2 r k) = rd (m ((c : Thread nD τ).loc main_arg0)) R L) := by
  have hN := (idx t).2.2.2.2.2.2.2.2.2.2.2.1
  have e2 : iblk m c 4 t (ix2 r k) = m ((c : Thread nD τ).loc main_arg0) (ix2 ⟨(t.val / 64 * 64 + min (t.val % 64 + 1) 63) * 128 + r.val, by omega⟩ ⟨1024 + k.val, by omega⟩) := by
    blk_ext [iblk, V, V_main_arg0, idx t]
  have e5 : iblk m c 7 t (ix2 r k) = m ((c : Thread nD τ).loc main_arg0) (ix2 ⟨(t.val / 64 * 64 + min (t.val % 64 + 1) 63) * 128 + r.val, by omega⟩ ⟨1280 + k.val, by omega⟩) := by
    blk_ext [iblk, V, V_main_arg0, idx t]
  subst hR
  exact ⟨fun h => by subst h; exact e2.trans (rd_eq _ _ _), fun h => by subst h; exact e5.trans (rd_eq _ _ _)⟩

/-- The context's keys and values, read off the array. -/
theorem rowsC (c : Dev nD) (t : Fin cfg0.N) (r : Fin 256) (k : Fin 256) (R L : ℕ) (hR : R = t.val / 64 * 256 + r.val) :
    (L = 1024 + k.val → iblk m c 8 t (ix2 r k) = rd (m ((c : Thread nD τ).loc main_arg1)) R L)
    ∧ (L = 1280 + k.val → iblk m c 9 t (ix2 r k) = rd (m ((c : Thread nD τ).loc main_arg1)) R L) := by
  have hN := (idx t).2.2.2.2.2.2.2.2.2.2.2.1
  have e2 : iblk m c 8 t (ix2 r k) = m ((c : Thread nD τ).loc main_arg1) (ix2 ⟨t.val / 64 * 256 + r.val, by omega⟩ ⟨1024 + k.val, by omega⟩) := by
    blk_ext [iblk, V, V_main_arg1, idx t]
  have e5 : iblk m c 9 t (ix2 r k) = m ((c : Thread nD τ).loc main_arg1) (ix2 ⟨t.val / 64 * 256 + r.val, by omega⟩ ⟨1280 + k.val, by omega⟩) := by
    blk_ext [iblk, V, V_main_arg1, idx t]
  subst hR
  exact ⟨fun h => by subst h; exact e2.trans (rd_eq _ _ _), fun h => by subst h; exact e5.trans (rd_eq _ _ _)⟩

/-- The operands of the four heads sharing a head of keys and values, at a grid point: the columns of the point's blocks. -/
structure Heads (c : Dev nD) (t : Fin cfg0.N) (v : Fin 2) (k0 k1 k2 v0 v1 v2 q0 q1 q2 q3 : Vec Ideal S128x128 .bf16) (z0 z1 z2 z3 : Elt Ideal .f32)
    (ck cv : Vec Ideal S256x128 .bf16) : Prop where
  k0 : ∀ r d : Fin 128, k0 (ix2 r d) = iblk m c 2 t (ix2 r ⟨v.val * 128 + d.val, by omega⟩)
  k1 : ∀ r d : Fin 128, k1 (ix2 r d) = iblk m c 3 t (ix2 r ⟨v.val * 128 + d.val, by omega⟩)
  k2 : ∀ r d : Fin 128, k2 (ix2 r d) = iblk m c 4 t (ix2 r ⟨v.val * 128 + d.val, by omega⟩)
  v0 : ∀ r d : Fin 128, v0 (ix2 r d) = iblk m c 5 t (ix2 r ⟨v.val * 128 + d.val, by omega⟩)
  v1 : ∀ r d : Fin 128, v1 (ix2 r d) = iblk m c 6 t (ix2 r ⟨v.val * 128 + d.val, by omega⟩)
  v2 : ∀ r d : Fin 128, v2 (ix2 r d) = iblk m c 7 t (ix2 r ⟨v.val * 128 + d.val, by omega⟩)
  q : ∀ (g : Fin 4) (a d : Fin 128), ![q0, q1, q2, q3] g (ix2 a d) = X0_1 m c t (ix2 a ⟨v.val * 512 + g.val * 128 + d.val, by omega⟩)
  z : ∀ g : Fin 4, ![z0, z1, z2, z3] g = iblk m c 0 t (ix1 ⟨v.val * 4 + g.val, by omega⟩)
  ck : ∀ (l : Fin 256) (d : Fin 128), ck (ix2 l d) = iblk m c 8 t (ix2 l ⟨v.val * 128 + d.val, by omega⟩)
  cv : ∀ (l : Fin 256) (d : Fin 128), cv (ix2 l d) = iblk m c 9 t (ix2 l ⟨v.val * 128 + d.val, by omega⟩)

/-- The numbers the logits are taken of are real. -/
structure Real3 (Q : FVec Ideal S16384x4608 .bf16) (C : FVec Ideal S512x4608 .bf16) (Z : FVec Ideal S8 .f32) : Prop where
  q : ∀ R L, L < 1280 → Real1 (rd Q R L)
  c : ∀ R L, 1024 ≤ L → L < 1280 → Real1 (rd C R L)
  z : ∀ h, Real1 (Z (ix1 h))

/-- A head's output at a grid point is the plain definition's at that point's rows and that head's columns. -/
theorem head (c : Dev nD) (hF : Real3 (m ((c : Thread nD τ).loc main_arg0)) (m ((c : Thread nD τ).loc main_arg1)) (m ((c : Thread nD τ).loc main_arg2)))
    (t : Fin cfg0.N) (v : Fin 2) (g : Fin 4) (a d : Fin 128) (r : Fin 512) (hr : r.val = g.val * 128 + a.val)
    (R : Fin 16384) (K : Fin 1024) (hR : R.val = t.val * 128 + a.val) (hK : K.val = v.val * 512 + g.val * 128 + d.val)
    (k0 k1 k2 v0 v1 v2 q0 q1 q2 q3 : Vec Ideal S128x128 .bf16) (z0 z1 z2 z3 : Elt Ideal .f32) (ck cv : Vec Ideal S256x128 .bf16)
    (hB : Heads m c t v k0 k1 k2 v0 v1 v2 q0 q1 q2 q3 z0 z1 z2 z3 ck cv) :
    att (k0_pay1 (grid0.coords t)) (k0_pay2 k0 k1 k2) (k0_pay2 v0 v1 v2) q0 q1 q2 q3 z0 z1 z2 z3 ck cv (ix2 r d)
      = REF (m ((c : Thread nD τ).loc main_arg0)) (m ((c : Thread nD τ).loc main_arg1)) (m ((c : Thread nD τ).loc main_arg2)) (ix2 R K) := by
  have hN := (idx t).2.2.2.2.2.2.2.2.2.2.2.1
  have hn := (idx t).2.2.2.2.2.2.2.2.2.2.2.2
  have hb : t.val / 64 < 2 := by omega
  have hm : t.val % 64 < 64 := by omega
  refine (core _ _ _ hF.q hF.c hF.z ⟨t.val / 64, hb⟩ ⟨t.val % 64, hm⟩ v g a d r hr _ k0 k1 k2 v0 v1 v2 q0 q1 q2 q3 z0 z1 z2 z3 ck cv
    (fun k => pay1_at _ _ a g r k hn hr) ⟨fun h0 r d => ?_, fun r d => ?_, fun h0 r d => ?_⟩ ⟨fun h0 r d => ?_, fun r d => ?_, fun h0 r d => ?_⟩
    (fun g a d => ?_) (fun g => ?_) (fun l d => ?_) (fun l d => ?_)).trans
    (REF_at _ _ _ ⟨t.val / 64, hb⟩ ⟨t.val % 64, hm⟩ a v g d R K (by rw [hR]; show _ = t.val / 64 * 8192 + t.val % 64 * 128 + a.val; omega) hK).symm
  · have h0' : 0 < t.val % 64 := h0
    exact (hB.k0 r d).trans ((rowsP m c t r _ _ _ (show t.val / 64 * 8192 + (t.val % 64 * 128 + r.val - 128) = _ by omega)).1
      (show 1024 + v.val * 128 + d.val = 1024 + (v.val * 128 + d.val) by omega))
  · exact (hB.k1 r d).trans ((rowsO m c t r _ _ _ (show t.val / 64 * 8192 + (t.val % 64 * 128 + r.val) = _ by omega)).1
      (show 1024 + v.val * 128 + d.val = 1024 + (v.val * 128 + d.val) by omega))
  · have h0' : t.val % 64 < 63 := h0
    exact (hB.k2 r d).trans ((rowsN m c t r _ _ _ (show t.val / 64 * 8192 + (t.val % 64 * 128 + 128 + r.val) = _ by omega)).1
      (show 1024 + v.val * 128 + d.val = 1024 + (v.val * 128 + d.val) by omega))
  · have h0' : 0 < t.val % 64 := h0
    exact (hB.v0 r d).trans ((rowsP m c t r _ _ _ (show t.val / 64 * 8192 + (t.val % 64 * 128 + r.val - 128) = _ by omega)).2
      (show 1280 + v.val * 128 + d.val = 1280 + (v.val * 128 + d.val) by omega))
  · exact (hB.v1 r d).trans ((rowsO m c t r _ _ _ (show t.val / 64 * 8192 + (t.val % 64 * 128 + r.val) = _ by omega)).2
      (show 1280 + v.val * 128 + d.val = 1280 + (v.val * 128 + d.val) by omega))
  · have h0' : t.val % 64 < 63 := h0
    exact (hB.v2 r d).trans ((rowsN m c t r _ _ _ (show t.val / 64 * 8192 + (t.val % 64 * 128 + 128 + r.val) = _ by omega)).2
      (show 1280 + v.val * 128 + d.val = 1280 + (v.val * 128 + d.val) by omega))
  · exact (hB.q g a d).trans (blk1 m c t a _ _ _ (show t.val / 64 * 8192 + t.val % 64 * 128 + a.val = _ by omega) rfl)
  · exact (hB.z g).trans (blk0 m c t _)
  · exact (hB.ck l d).trans ((rowsC m c t l _ _ _ rfl).1 (show 1024 + v.val * 128 + d.val = 1024 + (v.val * 128 + d.val) by omega))
  · exact (hB.cv l d).trans ((rowsC m c t l _ _ _ rfl).2 (show 1280 + v.val * 128 + d.val = 1280 + (v.val * 128 + d.val) by omega))

/-- The first four heads are stored as the rows of their output, a head after another. -/
theorem cut_first (v41 : FVec Ideal S384x128 .bf16) (v55 v70 : FVec Ideal S512x1 .f32) (v64 : FVec Ideal S512x256 .f32) (v72 : FVec Ideal S512x384 .f32)
    (cv : Vec Ideal S256x128 .bf16) (a d : Fin 128) :
    k0_pay11 v41 v55 v64 v70 v72 cv (ix2 a d) = k0_pay10 v41 v55 v64 v70 v72 cv (ix2 ⟨0 + a.val, by omega⟩ d)
    ∧ k0_pay12 v41 v55 v64 v70 v72 cv (ix2 a d) = k0_pay10 v41 v55 v64 v70 v72 cv (ix2 ⟨128 + a.val, by omega⟩ d)
    ∧ k0_pay13 v41 v55 v64 v70 v72 cv (ix2 a d) = k0_pay10 v41 v55 v64 v70 v72 cv (ix2 ⟨256 + a.val, by omega⟩ d)
    ∧ k0_pay14 v41 v55 v64 v70 v72 cv (ix2 a d) = k0_pay10 v41 v55 v64 v70 v72 cv (ix2 ⟨384 + a.val, by omega⟩ d) := by
  refine ⟨?_, ?_, ?_, ?_⟩
  · pointwise [k0_pay11]
  · pointwise [k0_pay12]
  · pointwise [k0_pay13]
  · pointwise [k0_pay14]

/-- The second four heads likewise. -/
theorem cut_second (v116 : FVec Ideal S384x128 .bf16) (v130 v141 : FVec Ideal S512x1 .f32) (v135 : FVec Ideal S512x384 .f32) (v139 : FVec Ideal S512x256 .f32)
    (cv : Vec Ideal S256x128 .bf16) (a d : Fin 128) :
    k0_pay22 v116 v130 v135 v139 v141 cv (ix2 a d) = k0_pay21 v116 v130 v135 v139 v141 cv (ix2 ⟨0 + a.val, by omega⟩ d)
    ∧ k0_pay23 v116 v130 v135 v139 v141 cv (ix2 a d) = k0_pay21 v116 v130 v135 v139 v141 cv (ix2 ⟨128 + a.val, by omega⟩ d)
    ∧ k0_pay24 v116 v130 v135 v139 v141 cv (ix2 a d) = k0_pay21 v116 v130 v135 v139 v141 cv (ix2 ⟨256 + a.val, by omega⟩ d)
    ∧ k0_pay25 v116 v130 v135 v139 v141 cv (ix2 a d) = k0_pay21 v116 v130 v135 v139 v141 cv (ix2 ⟨384 + a.val, by omega⟩ d) := by
  refine ⟨?_, ?_, ?_, ?_⟩
  · pointwise [k0_pay22]
  · pointwise [k0_pay23]
  · pointwise [k0_pay24]
  · pointwise [k0_pay25]

/-- What a grid point leaves in the block of results. -/
theorem point (c : Dev nD) (hF : Real3 (m ((c : Thread nD τ).loc main_arg0)) (m ((c : Thread nD τ).loc main_arg1)) (m ((c : Thread nD τ).loc main_arg2)))
    (t : Fin cfg0.N) (y) :
    outsAt0 m c t y = REF (m ((c : Thread nD τ).loc main_arg0)) (m ((c : Thread nD τ).loc main_arg1)) (m ((c : Thread nD τ).loc main_arg2)) (((cfg0.win 10).blk t).view.emb y) := by
  have hN := (idx t).2.2.2.2.2.2.2.2.2.2.2.1
  idx_vars y
  have e : ((cfg0.win 10).blk t).view.emb (ix2 y0 y1) = ix2 ⟨t.val * 128 + y0.val, by omega⟩ y1 := by
    blk_ext [idx t]
  rw [e]
  unfold outsAt0
  frame_out
  canon_tiles x h
  case' piece0 =>
    idx_vars x
    refine ((cut_second _ _ _ _ _ _ x0 x1).2.2.2).trans ((congrFun (att_second _ _ _ _ _ _ _ _ _ _ _ _ _ _ _ _ _) _).trans (head m c hF t 1 3 x0 x1 ⟨384 + x0.val, _⟩ rfl ⟨t.val * 128 + y0.val, _⟩ y1 (congrArg (t.val * 128 + ·) h0) (Eq.trans h1 (by show _ = 1 * 512 + 3 * 128 + _; omega)) _ _ _ _ _ _ _ _ _ _ _ _ _ _ _ _ ?_))
  case' piece1 =>
    idx_vars x
    refine ((cut_second _ _ _ _ _ _ x0 x1).2.2.1).trans ((congrFun (att_second _ _ _ _ _ _ _ _ _ _ _ _ _ _ _ _ _) _).trans (head m c hF t 1 2 x0 x1 ⟨256 + x0.val, _⟩ rfl ⟨t.val * 128 + y0.val, _⟩ y1 (congrArg (t.val * 128 + ·) h0) (Eq.trans h1 (by show _ = 1 * 512 + 2 * 128 + _; omega)) _ _ _ _ _ _ _ _ _ _ _ _ _ _ _ _ ?_))
  case' piece2 =>
    idx_vars x
    refine ((cut_second _ _ _ _ _ _ x0 x1).2.1).trans ((congrFun (att_second _ _ _ _ _ _ _ _ _ _ _ _ _ _ _ _ _) _).trans (head m c hF t 1 1 x0 x1 ⟨128 + x0.val, _⟩ rfl ⟨t.val * 128 + y0.val, _⟩ y1 (congrArg (t.val * 128 + ·) h0) (Eq.trans h1 (by show _ = 1 * 512 + 1 * 128 + _; omega)) _ _ _ _ _ _ _ _ _ _ _ _ _ _ _ _ ?_))
  case' piece3 =>
    idx_vars x
    refine ((cut_second _ _ _ _ _ _ x0 x1).1).trans ((congrFun (att_second _ _ _ _ _ _ _ _ _ _ _ _ _ _ _ _ _) _).trans (head m c hF t 1 0 x0 x1 ⟨0 + x0.val, _⟩ (by show 0 + x0.val = 0 * 128 + x0.val; omega) ⟨t.val * 128 + y0.val, _⟩ y1 (congrArg (t.val * 128 + ·) h0) (Eq.trans h1 (by show _ = 1 * 512 + 0 * 128 + _; omega)) _ _ _ _ _ _ _ _ _ _ _ _ _ _ _ _ ?_))
  case' piece4 =>
    idx_vars x
    refine ((cut_first _ _ _ _ _ _ x0 x1).2.2.2).trans ((head m c hF t 0 3 x0 x1 ⟨384 + x0.val, _⟩ rfl ⟨t.val * 128 + y0.val, _⟩ y1 (congrArg (t.val * 128 + ·) h0) (Eq.trans h1 (by show _ = 0 * 512 + 3 * 128 + _; omega)) _ _ _ _ _ _ _ _ _ _ _ _ _ _ _ _ ?_))
  case' piece5 =>
    idx_vars x
    refine ((cut_first _ _ _ _ _ _ x0 x1).2.2.1).trans ((head m c hF t 0 2 x0 x1 ⟨256 + x0.val, _⟩ rfl ⟨t.val * 128 + y0.val, _⟩ y1 (congrArg (t.val * 128 + ·) h0) (Eq.trans h1 (by show _ = 0 * 512 + 2 * 128 + _; omega)) _ _ _ _ _ _ _ _ _ _ _ _ _ _ _ _ ?_))
  case' piece6 =>
    idx_vars x
    refine ((cut_first _ _ _ _ _ _ x0 x1).2.1).trans ((head m c hF t 0 1 x0 x1 ⟨128 + x0.val, _⟩ rfl ⟨t.val * 128 + y0.val, _⟩ y1 (congrArg (t.val * 128 + ·) h0) (Eq.trans h1 (by show _ = 0 * 512 + 1 * 128 + _; omega)) _ _ _ _ _ _ _ _ _ _ _ _ _ _ _ _ ?_))
  case' piece7 =>
    idx_vars x
    refine ((cut_first _ _ _ _ _ _ x0 x1).1).trans ((head m c hF t 0 0 x0 x1 ⟨0 + x0.val, _⟩ (by show 0 + x0.val = 0 * 128 + x0.val; omega) ⟨t.val * 128 + y0.val, _⟩ y1 (congrArg (t.val * 128 + ·) h0) (Eq.trans h1 (by show _ = 0 * 512 + 0 * 128 + _; omega)) _ _ _ _ _ _ _ _ _ _ _ _ _ _ _ _ ?_))
  all_goals refine ⟨fun r d => ?_, fun r d => ?_, fun r d => ?_, fun r d => ?_, fun r d => ?_, fun r d => ?_, fun g a d => ?_, fun g => ?_, fun r d => ?_, fun r d => ?_⟩
  all_goals first
    | pointwise; done
    | (match g with
        | 0 => pointwise
        | 1 => pointwise
        | 2 => pointwise
        | 3 => pointwise)

/-- The array of results holds the plain definition's after the run. -/
theorem final (c : Dev nD) (hF : Real3 (m ((c : Thread nD τ).loc main_arg0)) (m ((c : Thread nD τ).loc main_arg1)) (m ((c : Thread nD τ).loc main_arg2))) :
    (dats m 0 c).arrAt 10 cfg0.N = REF (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact point m c hF t y

end Cert.KernelIdeal.WindowValue

end
-- ==== Proof.WindowPre.lean ====
/- The precondition of the window attention: what it says of the entries the logits are taken of. -/
module

public import proofs.«01_k».proof.Pre_finite
public import proofs.«01_k».proof.Proof.WindowMath
public import Idealize.ShloMosaic.Lib.Pointwise

@[expose] public section

set_option maxRecDepth 16384

noncomputable section

open Idealize.ShloMosaic Idealize.ShloMosaic.TcCoe Idealize.SL.Sem

namespace Cert.KernelIdeal.WindowPre

open Cert.Pre_finite Cert.KernelIdeal.WindowMath

variable [Cert.Pre_finite.Facts] (Q : FVec Ideal S16384x4608 .bf16) (C : FVec Ideal S512x4608 .bf16) (Z : FVec Ideal S8 .f32)

/-- A true comparison of a magnitude with infinity makes a real. -/
theorem real1_of_cmp (x : EReal) (h : BitVec.ofBool (decide (max x (-x) < Ideal.ofBits .f32 0x7F800000#32)) = 1#1) : Real1 x := by
  rw [ofBits_top] at h
  have e0 : ∀ p : Bool, BitVec.ofBool p = 1#1 → p = true := by decide
  exact real1_of_abs (of_decide_eq_true (e0 _ h))

/-- The predicate at the place of an entry of the rows. -/
theorem at_rows (R : Fin 16384) (L : Fin 1280) :
    Cert.Pre_finite.fn Q C Z (ix1 ⟨R.val * 1280 + L.val, by omega⟩)
      = BitVec.ofBool (decide (max (Q (ix2 R ⟨L.val, by omega⟩)) (-Q (ix2 R ⟨L.val, by omega⟩)) < Ideal.ofBits .f32 0x7F800000#32)) := by
  pointwise [Cert.Pre_finite.fn]
  rw [dif_pos (by omega)]
  rfl

/-- The predicate at the place of a key of the context. -/
theorem at_ctx (R : Fin 512) (L : Fin 256) :
    Cert.Pre_finite.fn Q C Z (ix1 ⟨20971520 + (R.val * 256 + L.val), by omega⟩)
      = BitVec.ofBool (decide (max (C (ix2 R ⟨1024 + L.val, by omega⟩)) (-C (ix2 R ⟨1024 + L.val, by omega⟩)) < Ideal.ofBits .f32 0x7F800000#32)) := by
  pointwise [Cert.Pre_finite.fn]
  rw [dif_pos (by omega)]
  rfl

/-- The predicate at the place of a sink. -/
theorem at_sink (h : Fin 8) :
    Cert.Pre_finite.fn Q C Z (ix1 ⟨21102592 + h.val, by omega⟩)
      = BitVec.ofBool (decide (max (Z (ix1 h)) (-Z (ix1 h)) < Ideal.ofBits .f32 0x7F800000#32)) := by
  pointwise [Cert.Pre_finite.fn]
  rw [dif_neg (by omega), dif_neg (by omega)]
  have e : (⟨21102592 + h.val - 20971520 - 131072, by omega⟩ : Fin 8) = h := Fin.ext (by show 21102592 + h.val - 20971520 - 131072 = h.val; omega)
  rw [e]
  rfl

variable {Q C Z} (h : Cert.Pre_finite.fn Q C Z = fun _ => 1#1)
include h

theorem real_q (R L : ℕ) (hL : L < 1280) : Real1 (rd Q R L) := by
  unfold rd
  by_cases hR : R < 16384 ∧ L < 4608
  · rw [dif_pos hR]
    exact real1_of_cmp _ ((at_rows Q C Z ⟨R, hR.1⟩ ⟨L, hL⟩).symm.trans (congrFun h _))
  · rw [dif_neg hR]
    exact ⟨0, rfl⟩

theorem real_c (R L : ℕ) (h0 : 1024 ≤ L) (hL : L < 1280) : Real1 (rd C R L) := by
  obtain ⟨l, rfl⟩ := Nat.exists_eq_add_of_le h0
  unfold rd
  by_cases hR : R < 512 ∧ 1024 + l < 4608
  · rw [dif_pos hR]
    exact real1_of_cmp _ ((at_ctx Q C Z ⟨R, hR.1⟩ ⟨l, by omega⟩).symm.trans (congrFun h _))
  · rw [dif_neg hR]
    exact ⟨0, rfl⟩

theorem real_z (i : Fin 8) : Real1 (Z (ix1 i)) :=
  real1_of_cmp _ ((at_sink Q C Z i).symm.trans (congrFun h _))

end Cert.KernelIdeal.WindowPre

end
-- ==== Proof.WindowClaim.lean ====
/- The value claim of window attention (Kernel): the run of the kernel and the run of the plain definition end with equal results. -/
module

public import proofs.«01_k».proof.Defs
public import proofs.«01_k».proof.Proof.WindowValue
public import proofs.«01_k».proof.Proof.WindowPre
public import proofs.«01_k».proof.Proof.Gen.ReferenceIdeal.Run
public import Idealize.ShloMosaic.Lib.Claim
public import Idealize.ShloMosaic.Lib.Quiescent

@[expose] public section

noncomputable section

open Idealize.ShloMosaic Idealize.ShloMosaic.TcCoe Idealize.SL.Sem

namespace Cert.Proof

variable [Cert.KernelIdeal.Facts] [Cert.Pre_finite.Facts]

/-- The precondition makes the numbers the logits are taken of real. -/
theorem real_of_pre {m} (h : Cert.Pre_KernelIdeal_finite m) (c : Dev Cert.KernelIdeal.nD) :
    Cert.KernelIdeal.WindowValue.Real3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
  ⟨fun R L hL => Cert.KernelIdeal.WindowPre.real_q (h c) R L hL, fun R L h0 hL => Cert.KernelIdeal.WindowPre.real_c (h c) R L h0 hL,
    fun i => Cert.KernelIdeal.WindowPre.real_z (h c) i⟩

/-- Over the same arguments, the rows and the sinks the logits are taken of finite, the kernel and the plain definition both run and end with
    equal results and unchanged arguments. -/
theorem value : Cert.algebraic_KernelIdeal_ReferenceIdeal_pre_finite := by
  pair_intro
  · run_from Cert.KernelIdeal.Gen.run_main m g
  · run_from Cert.ReferenceIdeal.Value.run m' g'
    obtain ⟨h0, h1, h2⟩ := hagree c
    rw [Cert.KernelIdeal.WindowRef.ref_eq, h0, h1, h2]
    exact (Cert.KernelIdeal.WindowValue.final m c (real_of_pre hpre c)).symm

/-- The plain definition runs, leaves its arguments as they were and no semaphore raised. -/
theorem frame_R : Cert.quiescent_ReferenceIdeal := fun m g _ =>
  θ_run_mono (Cert.ReferenceIdeal.Value.run m g) fun r h => ⟨fun c => (h c).2, sem_eq_zero_of_no_sems rfl r.2⟩

/-- It does so under the precondition too. -/
theorem frame_R_finite : Cert.quiescent_ReferenceIdeal_pre_finite := fun m g _ => frame_R m g trivial

end Cert.Proof

end
-- ==== Proof.MergeValue.lean ====
/- The gated merge of the four branches (Kernel2): what the array of results holds after the run. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.MergeValue

open Cert.Kernel2Ideal Cert.Kernel2Ideal.Gen

variable (m : (ℓ : Loc nD τ sig) → Buf (Elt Ideal) ℓ)

/-- The plain definition's term: the sum over the branches of the gate times the branch's product. -/
def REF (H : FVec Ideal S16384x4096 .bf16) (Y0 Y1 Y2 Y3 : FVec Ideal S16384x1024 .bf16) (W : FVec Ideal S4096x23040 .f32)
    (B : FVec Ideal S4x1024x4096 .f32) : FVec Ideal S16384x4096 .bf16 :=
  truncf .bf16 (addf (addf (addf (mulf (Host.divf (broadcastInDim Cert.Reference2Ideal.S16384x4096 ![] Cert.Reference2Ideal.Gen.bcast_S_S16384x4096 (constant Cert.Reference2Ideal.S_ .f32 0x3F800000#32)) (addf (broadcastInDim Cert.Reference2Ideal.S16384x4096 ![] Cert.Reference2Ideal.Gen.bcast_S_S16384x4096 (constant Cert.Reference2Ideal.S_ .f32 0x3F800000#32)) (Host.exp (Host.negf (extractStridedSlice Cert.Reference2Ideal.S16384x4096 ![0, 0] (extractStridedSlice Cert.Reference2Ideal.S16384x16384 ![0, 6656] (Host.dotGeneral (F := Ideal) (φ₁ := .f32) (φ₂ := .f32) Cert.Reference2Ideal.dot_S16384x4096_S4096x23040_S16384x23040_1_0_0_1_n_n none (extf .f32 H Cert.Reference2Ideal.Gen.bitsLt_bf16_f32) W) Cert.Reference2Ideal.Gen.slices_S16384x23040_S16384x16384_0_6656) Cert.Reference2Ideal.Gen.slices_S16384x16384_S16384x4096_0_0))))) (Host.dotGeneral (F := Ideal) (φ₁ := .f32) (φ₂ := .f32) Cert.Reference2Ideal.dot_S16384x1024_S1024x4096_S16384x4096_1_0_0_1_n_n none (extf .f32 Y0 Cert.Reference2Ideal.Gen.bitsLt_bf16_f32) (shapeCast _ (extractStridedSlice Cert.Reference2Ideal.S1x1024x4096 ![0, 0, 0] B Cert.Reference2Ideal.Gen.slices_S4x1024x4096_S1x1024x4096_0_0_0) Cert.Reference2Ideal.Gen.shapeCasts_S1x1024x4096_S1024x4096))) (mulf (Host.divf (broadcastInDim Cert.Reference2Ideal.S16384x4096 ![] Cert.Reference2Ideal.Gen.bcast_S_S16384x4096 (constant Cert.Reference2Ideal.S_ .f32 0x3F800000#32)) (addf (broadcastInDim Cert.Reference2Ideal.S16384x4096 ![] Cert.Reference2Ideal.Gen.bcast_S_S16384x4096 (constant Cert.Reference2Ideal.S_ .f32 0x3F800000#32)) (Host.exp (Host.negf (extractStridedSlice Cert.Reference2Ideal.S16384x4096 ![0, 4096] (extractStridedSlice Cert.Reference2Ideal.S16384x16384 ![0, 6656] (Host.dotGeneral (F := Ideal) (φ₁ := .f32) (φ₂ := .f32) Cert.Reference2Ideal.dot_S16384x4096_S4096x23040_S16384x23040_1_0_0_1_n_n none (extf .f32 H Cert.Reference2Ideal.Gen.bitsLt_bf16_f32) W) Cert.Reference2Ideal.Gen.slices_S16384x23040_S16384x16384_0_6656) Cert.Reference2Ideal.Gen.slices_S16384x16384_S16384x4096_0_4096))))) (Host.dotGeneral (F := Ideal) (φ₁ := .f32) (φ₂ := .f32) Cert.Reference2Ideal.dot_S16384x1024_S1024x4096_S16384x4096_1_0_0_1_n_n none (extf .f32 Y1 Cert.Reference2Ideal.Gen.bitsLt_bf16_f32) (shapeCast _ (extractStridedSlice Cert.Reference2Ideal.S1x1024x4096 ![1, 0, 0] B Cert.Reference2Ideal.Gen.slices_S4x1024x4096_S1x1024x4096_1_0_0) Cert.Reference2Ideal.Gen.shapeCasts_S1x1024x4096_S1024x4096)))) (mulf (Host.divf (broadcastInDim Cert.Reference2Ideal.S16384x4096 ![] Cert.Reference2Ideal.Gen.bcast_S_S16384x4096 (constant Cert.Reference2Ideal.S_ .f32 0x3F800000#32)) (addf (broadcastInDim Cert.Reference2Ideal.S16384x4096 ![] Cert.Reference2Ideal.Gen.bcast_S_S16384x4096 (constant Cert.Reference2Ideal.S_ .f32 0x3F800000#32)) (Host.exp (Host.negf (extractStridedSlice Cert.Reference2Ideal.S16384x4096 ![0, 8192] (extractStridedSlice Cert.Reference2Ideal.S16384x16384 ![0, 6656] (Host.dotGeneral (F := Ideal) (φ₁ := .f32) (φ₂ := .f32) Cert.Reference2Ideal.dot_S16384x4096_S4096x23040_S16384x23040_1_0_0_1_n_n none (extf .f32 H Cert.Reference2Ideal.Gen.bitsLt_bf16_f32) W) Cert.Reference2Ideal.Gen.slices_S16384x23040_S16384x16384_0_6656) Cert.Reference2Ideal.Gen.slices_S16384x16384_S16384x4096_0_8192))))) (Host.dotGeneral (F := Ideal) (φ₁ := .f32) (φ₂ := .f32) Cert.Reference2Ideal.dot_S16384x1024_S1024x4096_S16384x4096_1_0_0_1_n_n none (extf .f32 Y2 Cert.Reference2Ideal.Gen.bitsLt_bf16_f32) (shapeCast _ (extractStridedSlice Cert.Reference2Ideal.S1x1024x4096 ![2, 0, 0] B Cert.Reference2Ideal.Gen.slices_S4x1024x4096_S1x1024x4096_2_0_0) Cert.Reference2Ideal.Gen.shapeCasts_S1x1024x4096_S1024x4096)))) (mulf (Host.divf (broadcastInDim Cert.Reference2Ideal.S16384x4096 ![] Cert.Reference2Ideal.Gen.bcast_S_S16384x4096 (constant Cert.Reference2Ideal.S_ .f32 0x3F800000#32)) (addf (broadcastInDim Cert.Reference2Ideal.S16384x4096 ![] Cert.Reference2Ideal.Gen.bcast_S_S16384x4096 (constant Cert.Reference2Ideal.S_ .f32 0x3F800000#32)) (Host.exp (Host.negf (extractStridedSlice Cert.Reference2Ideal.S16384x4096 ![0, 12288] (extractStridedSlice Cert.Reference2Ideal.S16384x16384 ![0, 6656] (Host.dotGeneral (F := Ideal) (φ₁ := .f32) (φ₂ := .f32) Cert.Reference2Ideal.dot_S16384x4096_S4096x23040_S16384x23040_1_0_0_1_n_n none (extf .f32 H Cert.Reference2Ideal.Gen.bitsLt_bf16_f32) W) Cert.Reference2Ideal.Gen.slices_S16384x23040_S16384x16384_0_6656) Cert.Reference2Ideal.Gen.slices_S16384x16384_S16384x4096_0_12288))))) (Host.dotGeneral (F := Ideal) (φ₁ := .f32) (φ₂ := .f32) Cert.Reference2Ideal.dot_S16384x1024_S1024x4096_S16384x4096_1_0_0_1_n_n none (extf .f32 Y3 Cert.Reference2Ideal.Gen.bitsLt_bf16_f32) (shapeCast _ (extractStridedSlice Cert.Reference2Ideal.S1x1024x4096 ![3, 0, 0] B Cert.Reference2Ideal.Gen.slices_S4x1024x4096_S1x1024x4096_3_0_0) Cert.Reference2Ideal.Gen.shapeCasts_S1x1024x4096_S1024x4096)))) Cert.Reference2Ideal.Gen.bitsLt_bf16_f32

/-- Each window's block index at every grid point. -/
theorem idx : ∀ t : Fin cfg0.N, win0_0.index t = ![t.val / 16, 0] ∧ win0_1.index t = ![t.val / 16, 0]
    ∧ win0_2.index t = ![t.val / 16, 0] ∧ win0_3.index t = ![t.val / 16, 0] ∧ win0_4.index t = ![t.val / 16, 0]
    ∧ win0_5.index t = ![0, t.val % 16] ∧ win0_6.index t = ![0, 16 + t.val % 16] ∧ win0_7.index t = ![0, 32 + t.val % 16]
    ∧ win0_8.index t = ![0, 48 + t.val % 16] ∧ win0_9.index t = ![0, 0, t.val % 16]
    ∧ win0_10.index t = ![t.val / 16, t.val % 16] ∧ t.val / 16 < 32 :=
  (by decide +kernel : ∀ t : Fin grid0.N, _)

/-- A row of the block of the activations is a row of the activations. -/
theorem blk0 (c : Dev nD) (t : Fin cfg0.N) (r : Fin 512) (k : Fin 4096) (h : t.val / 16 * 512 + r.val < 16384) :
    iblk m c 0 t (ix2 r k) = m ((c : Thread nD τ).loc main_arg0) (ix2 ⟨t.val / 16 * 512 + r.val, h⟩ k) := by
  blk_ext [iblk, V, V_main_arg0, idx t]

/-- A row of the block of branch 1 is a row of the branch. -/
theorem blk1 (c : Dev nD) (t : Fin cfg0.N) (r : Fin 512) (k : Fin 1024) (h : t.val / 16 * 512 + r.val < 16384) :
    iblk m c 1 t (ix2 r k) = m ((c : Thread nD τ).loc main_arg1) (ix2 ⟨t.val / 16 * 512 + r.val, h⟩ k) := by
  blk_ext [iblk, V, V_main_arg1, idx t]

/-- A row of the block of branch 2 is a row of the branch. -/
theorem blk2 (c : Dev nD) (t : Fin cfg0.N) (r : Fin 512) (k : Fin 1024) (h : t.val / 16 * 512 + r.val < 16384) :
    iblk m c 2 t (ix2 r k) = m ((c : Thread nD τ).loc main_arg2) (ix2 ⟨t.val / 16 * 512 + r.val, h⟩ k) := by
  blk_ext [iblk, V, V_main_arg2, idx t]

/-- A row of the block of branch 3 is a row of the branch. -/
theorem blk3 (c : Dev nD) (t : Fin cfg0.N) (r : Fin 512) (k : Fin 1024) (h : t.val / 16 * 512 + r.val < 16384) :
    iblk m c 3 t (ix2 r k) = m ((c : Thread nD τ).loc main_arg3) (ix2 ⟨t.val / 16 * 512 + r.val, h⟩ k) := by
  blk_ext [iblk, V, V_main_arg3, idx t]

/-- A row of the block of branch 4 is a row of the branch. -/
theorem blk4 (c : Dev nD) (t : Fin cfg0.N) (r : Fin 512) (k : Fin 1024) (h : t.val / 16 * 512 + r.val < 16384) :
    iblk m c 4 t (ix2 r k) = m ((c : Thread nD τ).loc main_arg4) (ix2 ⟨t.val / 16 * 512 + r.val, h⟩ k) := by
  blk_ext [iblk, V, V_main_arg4, idx t]

/-- The gates' weights, cut out and cast on the host, are the last columns of the weights. -/
theorem V_g (c : Dev nD) (k : Fin 4096) (j : Fin 16384) (h : 6656 + j.val < 23040) :
    V m c main_v1 (ix2 k j) = m ((c : Thread nD τ).loc main_arg5) (ix2 k ⟨6656 + j.val, h⟩) := by
  entry_read
  pointwise

/-- The branches' weights, cast on the host, are the branches' weights. -/
theorem V_b (c : Dev nD) : V m c main_v2 = (m ((c : Thread nD τ).loc main_arg6) : FVec Ideal S4x1024x4096 .f32) := by
  entry_read
  funext j
  pointwise

/-- A column of the block of gate 0 is a column of the weights. -/
theorem blk5 (c : Dev nD) (t : Fin cfg0.N) (k : Fin 4096) (j : Fin 256) (h : 6656 + (t.val % 16 * 256 + j.val) < 23040) :
    iblk m c 5 t (ix2 k j) = m ((c : Thread nD τ).loc main_arg5) (ix2 k ⟨6656 + (t.val % 16 * 256 + j.val), h⟩) := by
  have hj : (t.val % 16 * 256 + j.val) < 16384 := by omega
  blk_simp [iblk]
  have e : (win0_5.blk t).view.emb (ix2 k j) = ix2 k ⟨t.val % 16 * 256 + j.val, hj⟩ := by
    blk_ext [idx t]
  rw [e]
  exact V_g m c _ _ (by show 6656 + (t.val % 16 * 256 + j.val) < 23040; omega)

/-- A column of the block of gate 1 is a column of the weights. -/
theorem blk6 (c : Dev nD) (t : Fin cfg0.N) (k : Fin 4096) (j : Fin 256) (h : 6656 + (4096 + (t.val % 16 * 256 + j.val)) < 23040) :
    iblk m c 6 t (ix2 k j) = m ((c : Thread nD τ).loc main_arg5) (ix2 k ⟨6656 + (4096 + (t.val % 16 * 256 + j.val)), h⟩) := by
  have hj : 4096 + (t.val % 16 * 256 + j.val) < 16384 := by omega
  blk_simp [iblk]
  have e : (win0_6.blk t).view.emb (ix2 k j) = ix2 k ⟨4096 + (t.val % 16 * 256 + j.val), hj⟩ := by
    blk_ext [idx t]
  rw [e]
  exact V_g m c _ _ (by show 6656 + (4096 + (t.val % 16 * 256 + j.val)) < 23040; omega)

/-- A column of the block of gate 2 is a column of the weights. -/
theorem blk7 (c : Dev nD) (t : Fin cfg0.N) (k : Fin 4096) (j : Fin 256) (h : 6656 + (8192 + (t.val % 16 * 256 + j.val)) < 23040) :
    iblk m c 7 t (ix2 k j) = m ((c : Thread nD τ).loc main_arg5) (ix2 k ⟨6656 + (8192 + (t.val % 16 * 256 + j.val)), h⟩) := by
  have hj : 8192 + (t.val % 16 * 256 + j.val) < 16384 := by omega
  blk_simp [iblk]
  have e : (win0_7.blk t).view.emb (ix2 k j) = ix2 k ⟨8192 + (t.val % 16 * 256 + j.val), hj⟩ := by
    blk_ext [idx t]
  rw [e]
  exact V_g m c _ _ (by show 6656 + (8192 + (t.val % 16 * 256 + j.val)) < 23040; omega)

/-- A column of the block of gate 3 is a column of the weights. -/
theorem blk8 (c : Dev nD) (t : Fin cfg0.N) (k : Fin 4096) (j : Fin 256) (h : 6656 + (12288 + (t.val % 16 * 256 + j.val)) < 23040) :
    iblk m c 8 t (ix2 k j) = m ((c : Thread nD τ).loc main_arg5) (ix2 k ⟨6656 + (12288 + (t.val % 16 * 256 + j.val)), h⟩) := by
  have hj : 12288 + (t.val % 16 * 256 + j.val) < 16384 := by omega
  blk_simp [iblk]
  have e : (win0_8.blk t).view.emb (ix2 k j) = ix2 k ⟨12288 + (t.val % 16 * 256 + j.val), hj⟩ := by
    blk_ext [idx t]
  rw [e]
  exact V_g m c _ _ (by show 6656 + (12288 + (t.val % 16 * 256 + j.val)) < 23040; omega)

/-- A column of the block of the branches' weights is a column of the branches' weights. -/
theorem blk9 (c : Dev nD) (t : Fin cfg0.N) (a : Fin 4) (k : Fin 1024) (j : Fin 256) (h : t.val % 16 * 256 + j.val < 4096) :
    iblk m c 9 t (ix3 a k j) = m ((c : Thread nD τ).loc main_arg6) (ix3 a k ⟨t.val % 16 * 256 + j.val, h⟩) := by
  blk_simp [iblk]
  rw [V_b]
  blk_ext [idx t]

/-- A branch's gated term depends on the gate's logit and the branch's product alone. -/
theorem term_congr {s s' p p' : EReal} (hs : s = s') (hp : p = p') :
    Ideal.div 1 (1 + Ideal.exp (0 - s)) * p = Ideal.div 1 (1 + Ideal.exp (-s')) * p' := by
  rw [hs, hp, zero_sub]

/-- What point `t` stores is the plain definition's term at the place of its block. -/
theorem point (c : Dev nD) (t : Fin cfg0.N) (y) :
    out0_10 (iblk m c 0 t) (iblk m c 1 t) (iblk m c 2 t) (iblk m c 3 t) (iblk m c 4 t) (iblk m c 5 t) (iblk m c 6 t) (iblk m c 7 t) (iblk m c 8 t) (iblk m c 9 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  frame_out
  idx_vars y
  have ht := (idx t).2.2.2.2.2.2.2.2.2.2.2
  have hr : t.val / 16 * 512 + y0.val < 16384 := by omega
  have hl : t.val % 16 * 256 + y1.val < 4096 := by omega
  have e : ((cfg0.win 10).blk t).view.emb (ix2 y0 y1) = ix2 ⟨t.val / 16 * 512 + y0.val, hr⟩ ⟨t.val % 16 * 256 + y1.val, hl⟩ := by
    blk_ext [idx t]
  rw [e]
  pointwise [k0_pay1, k0_pay2, REF]
  refine Ideal.add_congr (Ideal.add_congr (Ideal.add_congr (term_congr ?_ ?_) (term_congr ?_ ?_)) (term_congr ?_ ?_))
    (term_congr ?_ ?_) <;> refine Finset.sum_congr rfl fun k _ => Ideal.mul_congr ?_ ?_
  · exact blk0 m c t y0 k hr
  · exact blk5 m c t k y1 (by omega)
  · exact blk1 m c t y0 k hr
  · exact blk9 m c t 0 k y1 hl
  · exact blk0 m c t y0 k hr
  · exact blk6 m c t k y1 (by omega)
  · exact blk2 m c t y0 k hr
  · exact blk9 m c t 1 k y1 hl
  · exact blk0 m c t y0 k hr
  · exact blk7 m c t k y1 (by omega)
  · exact blk3 m c t y0 k hr
  · exact blk9 m c t 2 k y1 hl
  · exact blk0 m c t y0 k hr
  · exact blk8 m c t k y1 (by omega)
  · exact blk4 m c t y0 k hr
  · exact blk9 m c t 3 k y1 hl

/-- After the run the array of results is the plain definition's term. -/
theorem final (c : Dev nD) : (dats m 0 c).arrAt 10 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  exact point m c t y

end Cert.Kernel2Ideal.MergeValue

end
-- ==== Proof.MergeClaim.lean ====
/- The value claim of the gated merge (Kernel2): the run of the kernel and the run of the plain definition end with equal results. -/
module

public import proofs.«01_k».proof.Defs
public import proofs.«01_k».proof.Proof.MergeValue
public import Idealize.ShloMosaic.Lib.Claim
public import Idealize.ShloMosaic.Lib.Quiescent

@[expose] public section

noncomputable section

open Idealize.ShloMosaic Idealize.ShloMosaic.TcCoe Idealize.SL.Sem

namespace Cert.Proof

/-- Over the same arguments the kernel and the plain definition both run and end with equal results and unchanged arguments. -/
theorem value2 : Cert.algebraic_Kernel2Ideal_Reference2Ideal := by
  pair_intro
  · run_from Cert.Kernel2Ideal.Gen.run_main m g
  · hlo_run
    exact (Cert.Kernel2Ideal.MergeValue.final m c).symm

/-- The plain definition runs, leaves its arguments as they were and no semaphore raised. -/
theorem frame_R2 : Cert.quiescent_Reference2Ideal := fun m g _ =>
  θ_run_mono (Cert.Reference2Ideal.Value.run m g) fun r h => ⟨fun c => (h c).2, sem_eq_zero_of_no_sems rfl r.2⟩

end Cert.Proof

end
-- ==== Proof.GluValue.lean ====
/- The gated convolution (Kernel3): what the array of results holds after the run. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.GluValue

open Cert.Kernel3Ideal Cert.Kernel3Ideal.Gen

variable (m : (ℓ : Loc nD τ sig) → Buf (Elt Ideal) ℓ)

/-- The activations, as sequences of rows, times a weight. -/
def up (H : FVec Ideal S16384x4096 .bf16) (W : FVec Ideal S4096x11008 .f32) : FVec Ideal Cert.Reference3Ideal.S2x8192x11008 .f32 :=
  Host.dotGeneral (F := Ideal) (φ₁ := .f32) (φ₂ := .f32) Cert.Reference3Ideal.dot_S2x8192x4096_S4096x11008_S2x8192x11008_2_0_01_1_n_n none (shapeCast _ (extf .f32 H Cert.Reference3Ideal.Gen.bitsLt_bf16_f32) Cert.Reference3Ideal.Gen.shapeCasts_S16384x4096_S2x8192x4096) W

/-- The convolution along the sequence of the gate's product, zero before and after a sequence. -/
def conv (H : FVec Ideal S16384x4096 .bf16) (WG : FVec Ideal S4096x11008 .f32) (CW : FVec Ideal S3x11008 .f32) (CB : FVec Ideal S11008 .f32) :
    FVec Ideal Cert.Reference3Ideal.S2x8192x11008 .f32 :=
  addf (addf (addf (mulf (concatenate Cert.Reference3Ideal.S2x8192x11008 1 [⟨Cert.Reference3Ideal.S2x1x11008, (broadcastInDim Cert.Reference3Ideal.S2x1x11008 ![] Cert.Reference3Ideal.Gen.bcast_S_S2x1x11008 (constant Cert.Reference3Ideal.S_ .f32 0x00000000#32))⟩, ⟨Cert.Reference3Ideal.S2x8191x11008, (extractStridedSlice Cert.Reference3Ideal.S2x8191x11008 ![0, 0, 0] (up H WG) Cert.Reference3Ideal.Gen.slices_S2x8192x11008_S2x8191x11008_0_0_0)⟩] Cert.Reference3Ideal.Gen.concatenates_S2x1x11008_S2x8191x11008_S2x8192x11008_d1) (broadcastInDim Cert.Reference3Ideal.S2x8192x11008 ![0, 1, 2] Cert.Reference3Ideal.Gen.bcast_S1x1x11008_S2x8192x11008_0_1_2 (broadcastInDim Cert.Reference3Ideal.S1x1x11008 ![2] Cert.Reference3Ideal.Gen.bcast_S11008_S1x1x11008_2 (shapeCast _ (extractStridedSlice Cert.Reference3Ideal.S1x11008 ![0, 0] CW Cert.Reference3Ideal.Gen.slices_S3x11008_S1x11008_0_0) Cert.Reference3Ideal.Gen.shapeCasts_S1x11008_S11008)))) (mulf (up H WG) (broadcastInDim Cert.Reference3Ideal.S2x8192x11008 ![0, 1, 2] Cert.Reference3Ideal.Gen.bcast_S1x1x11008_S2x8192x11008_0_1_2 (broadcastInDim Cert.Reference3Ideal.S1x1x11008 ![2] Cert.Reference3Ideal.Gen.bcast_S11008_S1x1x11008_2 (shapeCast _ (extractStridedSlice Cert.Reference3Ideal.S1x11008 ![1, 0] CW Cert.Reference3Ideal.Gen.slices_S3x11008_S1x11008_1_0) Cert.Reference3Ideal.Gen.shapeCasts_S1x11008_S11008))))) (mulf (concatenate Cert.Reference3Ideal.S2x8192x11008 1 [⟨Cert.Reference3Ideal.S2x8191x11008, (extractStridedSlice Cert.Reference3Ideal.S2x8191x11008 ![0, 1, 0] (up H WG) Cert.Reference3Ideal.Gen.slices_S2x8192x11008_S2x8191x11008_0_1_0)⟩, ⟨Cert.Reference3Ideal.S2x1x11008, (broadcastInDim Cert.Reference3Ideal.S2x1x11008 ![] Cert.Reference3Ideal.Gen.bcast_S_S2x1x11008 (constant Cert.Reference3Ideal.S_ .f32 0x00000000#32))⟩] Cert.Reference3Ideal.Gen.concatenates_S2x8191x11008_S2x1x11008_S2x8192x11008_d1) (broadcastInDim Cert.Reference3Ideal.S2x8192x11008 ![0, 1, 2] Cert.Reference3Ideal.Gen.bcast_S1x1x11008_S2x8192x11008_0_1_2 (broadcastInDim Cert.Reference3Ideal.S1x1x11008 ![2] Cert.Reference3Ideal.Gen.bcast_S11008_S1x1x11008_2 (shapeCast _ (extractStridedSlice Cert.Reference3Ideal.S1x11008 ![2, 0] CW Cert.Reference3Ideal.Gen.slices_S3x11008_S1x11008_2_0) Cert.Reference3Ideal.Gen.shapeCasts_S1x11008_S11008))))) (broadcastInDim Cert.Reference3Ideal.S2x8192x11008 ![0, 1, 2] Cert.Reference3Ideal.Gen.bcast_S1x1x11008_S2x8192x11008_0_1_2 (broadcastInDim Cert.Reference3Ideal.S1x1x11008 ![2] Cert.Reference3Ideal.Gen.bcast_S11008_S1x1x11008_2 CB))

/-- The plain definition's term: the convolution, times its logistic function, times the value's product. -/
def REF (H : FVec Ideal S16384x4096 .bf16) (WG WV : FVec Ideal S4096x11008 .f32) (CW : FVec Ideal S3x11008 .f32) (CB : FVec Ideal S11008 .f32) :
    FVec Ideal Cert.Reference3Ideal.S16384x11008 .bf16 :=
  truncf .bf16 (shapeCast _ (mulf (mulf (conv H WG CW CB) (Host.divf (broadcastInDim Cert.Reference3Ideal.S2x8192x11008 ![] Cert.Reference3Ideal.Gen.bcast_S_S2x8192x11008 (constant Cert.Reference3Ideal.S_ .f32 0x3F800000#32)) (addf (broadcastInDim Cert.Reference3Ideal.S2x8192x11008 ![] Cert.Reference3Ideal.Gen.bcast_S_S2x8192x11008 (constant Cert.Reference3Ideal.S_ .f32 0x3F800000#32)) (Host.exp (Host.negf (conv H WG CW CB)))))) (up H WV)) Cert.Reference3Ideal.Gen.shapeCasts_S2x8192x11008_S16384x11008) Cert.Reference3Ideal.Gen.bitsLt_bf16_f32

/-- An entry of the product of the activations and a weight, zero outside the rows. -/
def A (H : FVec Ideal S16384x4096 .bf16) (W : FVec Ideal S4096x11008 .f32) (R : ℕ) (C : Fin 11008) : EReal :=
  if h : R < 16384 then ∑ k : Fin 4096, H (ix2 ⟨R, h⟩ k) * W (ix2 k C) else 0

/-- The product at a place of a sequence is the entry at its row. -/
theorem up_read (H : FVec Ideal S16384x4096 .bf16) (W : FVec Ideal S4096x11008 .f32) (b : Fin 2) (s : Fin 8192) (C : Fin 11008) :
    up H W (ix3 b s C) = A H W (b.val * 8192 + s.val) C := by
  have h : b.val * 8192 + s.val < 16384 := by omega
  rw [A, dif_pos h]
  pointwise [up]

/-- The convolution at a place of a sequence. -/
theorem conv_read (H : FVec Ideal S16384x4096 .bf16) (WG : FVec Ideal S4096x11008 .f32) (CW : FVec Ideal S3x11008 .f32) (CB : FVec Ideal S11008 .f32)
    (b : Fin 2) (s : Fin 8192) (C : Fin 11008) :
    conv H WG CW CB (ix3 b s C)
      = (if s.val = 0 then 0 else A H WG (b.val * 8192 + s.val - 1) C) * CW (ix2 0 C) + A H WG (b.val * 8192 + s.val) C * CW (ix2 1 C)
        + (if s.val = 8191 then 0 else A H WG (b.val * 8192 + s.val + 1) C) * CW (ix2 2 C) + CB (ix1 C) := by
  pointwise [conv]
  refine Ideal.add_congr (Ideal.add_congr (Ideal.add_congr (Ideal.mul_congr ?_ rfl) (Ideal.mul_congr (up_read H WG b s C) rfl)) (Ideal.mul_congr ?_ rfl)) rfl
  · by_cases h : s.val = 0
    · rw [dif_pos (by omega), if_pos h]
    · rw [dif_neg (by omega), if_neg h, up_read]
      exact congrArg (fun R => A H WG R C) (by show b.val * 8192 + (s.val - 1) = _; omega)
  · by_cases h : s.val = 8191
    · rw [dif_neg (by omega), if_pos h]
    · rw [dif_pos (by omega), if_neg h, up_read]
      exact congrArg (fun R => A H WG R C) (by show b.val * 8192 + (1 + s.val) = _; omega)

/-- The plain definition's term at a place. -/
theorem REF_read (H : FVec Ideal S16384x4096 .bf16) (WG WV : FVec Ideal S4096x11008 .f32) (CW : FVec Ideal S3x11008 .f32) (CB : FVec Ideal S11008 .f32)
    (R : Fin 16384) (C : Fin 11008) (b : Fin 2) (s : Fin 8192) (hR : R.val = b.val * 8192 + s.val) :
    REF H WG WV CW CB (ix2 R C)
      = conv H WG CW CB (ix3 b s C) * Ideal.div 1 (1 + Ideal.exp (-conv H WG CW CB (ix3 b s C))) * up H WV (ix3 b s C) := by
  have hb : R.val / 8192 = b.val := by omega
  have hs : R.val % 8192 = s.val := by omega
  have e : (ix3 ⟨R.val / 8192, by omega⟩ ⟨R.val % 8192, by omega⟩ C : (⟨3, ![2, 8192, 11008]⟩ : Shape).Idx) = ix3 b s C := by
    congr 1 <;> exact Fin.ext ‹_›
  pointwise [REF]
  rw [e]

/-- Each window's block index at every grid point. -/
theorem idx : ∀ t : Fin cfg0.N, win0_0.index t = ![t.val / 43 * 64 - 1, 0] ∧ win0_1.index t = ![t.val / 43, 0]
    ∧ win0_2.index t = ![min (t.val / 43 * 64 + 64) 1023, 0] ∧ win0_3.index t = ![0, t.val % 43] ∧ win0_4.index t = ![0, t.val % 43]
    ∧ win0_5.index t = ![0, t.val % 43] ∧ win0_6.index t = ![0, t.val % 43]
    ∧ win0_7.index t = ![t.val / 43, t.val % 43] ∧ t.val / 43 < 16 :=
  (by decide +kernel : ∀ t : Fin grid0.N, _)

/-- Whether a point's rows begin a sequence. -/
def fst (t : Fin cfg0.N) : BitVec 1 :=
  Scalar.cmpi CmpIPredicate.eq
    (Scalar.select
      (Scalar.andi (Scalar.xori (Scalar.cmpi CmpIPredicate.slt (Scalar.remsi (BitVec.ofNat 32 (grid0.coords t 0).val) 8#32) 0#32) 0#1)
        (Scalar.cmpi CmpIPredicate.ne (Scalar.remsi (BitVec.ofNat 32 (grid0.coords t 0).val) 8#32) 0#32))
      (Scalar.addi (Scalar.remsi (BitVec.ofNat 32 (grid0.coords t 0).val) 8#32) 8#32)
      (Scalar.remsi (BitVec.ofNat 32 (grid0.coords t 0).val) 8#32)) 0#32

/-- Whether a point's rows end a sequence. -/
def lst (t : Fin cfg0.N) : BitVec 1 :=
  Scalar.cmpi CmpIPredicate.eq
    (Scalar.select
      (Scalar.andi (Scalar.xori (Scalar.cmpi CmpIPredicate.slt (Scalar.remsi (BitVec.ofNat 32 (grid0.coords t 0).val) 8#32) 0#32) 0#1)
        (Scalar.cmpi CmpIPredicate.ne (Scalar.remsi (BitVec.ofNat 32 (grid0.coords t 0).val) 8#32) 0#32))
      (Scalar.addi (Scalar.remsi (BitVec.ofNat 32 (grid0.coords t 0).val) 8#32) 8#32)
      (Scalar.remsi (BitVec.ofNat 32 (grid0.coords t 0).val) 8#32)) 7#32

/-- The first of every eight row tiles begins a sequence, the last ends it. -/
theorem ends : ∀ t : Fin cfg0.N, fst t = (if t.val / 43 % 8 = 0 then 1#1 else 0#1) ∧ lst t = (if t.val / 43 % 8 = 7 then 1#1 else 0#1) :=
  (by decide +kernel : ∀ t : Fin grid0.N, _)

/-- The row of the activations the carried scratch holds at its row `r` in row tile `i`: the last rows before the tile, the tile, the
    first rows after it. -/
def srow (i r : ℕ) : ℕ := if r < 16 then (i * 64 - 1) * 16 + r else if r < 1040 then i * 1024 + (r - 16) else min (i * 64 + 64) 1023 * 16 + (r - 1040)

/-- A scratch that holds the rows of row tile `i`. -/
def Good (c : Dev nD) (i : ℕ) (v : Vec Ideal S1056x4096 .bf16) : Prop :=
  ∀ (r : Fin 1056) (k : Fin 4096) (R : Fin 16384), R.val = srow i r.val → v (ix2 r k) = m ((c : Thread nD τ).loc main_arg0) (ix2 R k)

/-- What the first point of a row tile stores in the scratch are the tile's rows. -/
theorem good_A (c : Dev nD) (t : Fin cfg0.N) :
    Good m c (t.val / 43) (View.canon
      [⟨Rect.unit ![1040, 0] ![16, 4096] inb_S1056x4096_S16x4096_1040_0, k0_pay4 (iblk m c 2 t)⟩,
        ⟨Rect.unit ![16, 0] ![1024, 4096] inb_S1056x4096_S1024x4096_16_0, k0_pay3 (iblk m c 1 t)⟩,
        ⟨Rect.unit ![0, 0] ![16, 4096] inb_S1056x4096_S16x4096_0_0, k0_pay2 (iblk m c 0 t)⟩]) := by
  intro r k R hR
  have ht := (idx t).2.2.2.2.2.2.2.2
  unfold srow at hR
  canon_tiles x h using View.cover_of_tiledBy (s := S1056x4096) _ ![16, 4096] (by sl_kernel_rfl) _
  all_goals open_payloads
  all_goals pointwise
  case piece0 =>
    have e0 : r.val = 1040 + (x 0).val := h0
    have e1 : k.val = (x 1).val := h1
    rw [if_neg (by omega), if_neg (by omega)] at hR
    blk_ext [iblk, V, V_main_arg0, idx t]
  case piece1 =>
    have e0 : r.val = 16 + (x 0).val := h0
    have e1 : k.val = (x 1).val := h1
    rw [if_neg (by omega), if_pos (by omega)] at hR
    blk_ext [iblk, V, V_main_arg0, idx t]
  case piece2 =>
    have e0 : r.val = (x 0).val := h0
    have e1 : k.val = (x 1).val := h1
    rw [if_pos (by omega)] at hR
    blk_ext [iblk, V, V_main_arg0, idx t]

/-- After every point the scratch holds the rows of the point's row tile. -/
theorem good (c : Dev nD) : ∀ (n : ℕ) (hn : n < cfg0.N), Good m c (n / 43) (outsAt0 m c n hn).2 := by
  intro n
  induction n with
  | zero =>
    intro hn
    rw [outsAt0_A m c ⟨0, hn⟩ (Nat.zero_mod _)]
    frame_out
    exact good_A m c ⟨0, hn⟩
  | succ n ih =>
    intro hn
    by_cases h0 : (n + 1) % 43 = 0
    · rw [outsAt0_A m c ⟨n + 1, hn⟩ h0]
      frame_out
      exact good_A m c ⟨n + 1, hn⟩
    · rw [outsAt0_B m c ⟨n + 1, hn⟩ h0]
      have e : (n + 1) / 43 = n / 43 := by omega
      rw [e]
      exact ih (by omega)

/-- A row of the block of the activations is a row of the activations. -/
theorem blk1 (c : Dev nD) (t : Fin cfg0.N) (r : Fin 1024) (k : Fin 4096) (R : Fin 16384) (h : R.val = t.val / 43 * 1024 + r.val) :
    iblk m c 1 t (ix2 r k) = m ((c : Thread nD τ).loc main_arg0) (ix2 R k) := by
  blk_ext [iblk, V, V_main_arg0, idx t]

/-- A column of the block of the gate's weight is a column of the weight. -/
theorem blk3 (c : Dev nD) (t : Fin cfg0.N) (k : Fin 4096) (j : Fin 256) (C : Fin 11008) (h : C.val = t.val % 43 * 256 + j.val) :
    iblk m c 3 t (ix2 k j) = m ((c : Thread nD τ).loc main_arg1) (ix2 k C) := by
  blk_simp [iblk]
  entry_read
  pointwise
  blk_ext [idx t]

/-- A column of the block of the value's weight is a column of the weight. -/
theorem blk4 (c : Dev nD) (t : Fin cfg0.N) (k : Fin 4096) (j : Fin 256) (C : Fin 11008) (h : C.val = t.val % 43 * 256 + j.val) :
    iblk m c 4 t (ix2 k j) = m ((c : Thread nD τ).loc main_arg2) (ix2 k C) := by
  blk_simp [iblk]
  entry_read
  pointwise
  blk_ext [idx t]

/-- A column of the block of the convolution's taps is a column of the taps. -/
theorem blk5 (c : Dev nD) (t : Fin cfg0.N) (k : Fin 3) (j : Fin 256) (C : Fin 11008) (h : C.val = t.val % 43 * 256 + j.val) :
    iblk m c 5 t (ix2 k j) = m ((c : Thread nD τ).loc main_arg3) (ix2 k C) := by
  blk_ext [iblk, V, V_main_arg3, idx t]

/-- An entry of the block of the convolution's offsets is an offset. -/
theorem blk6 (c : Dev nD) (t : Fin cfg0.N) (j : Fin 256) (C : Fin 11008) (h : C.val = t.val % 43 * 256 + j.val) :
    iblk m c 6 t (ix2 0 j) = m ((c : Thread nD τ).loc main_arg4) (ix1 C) := by
  blk_simp [iblk]
  entry_read
  pointwise
  blk_ext [idx t]

/-- A choice by a row's number and a flag. -/
theorem sel (n k : ℕ) (hn : n < 1024) (hk : k < 1024) (p : Prop) [Decidable p] (x y : EReal) :
    Scalar.select (IntOp.andi (IntOp.cmpi CmpIPredicate.eq (BitVec.ofNat 32 n) (BitVec.ofNat 32 k)) (if p then 1#1 else 0#1)) x y
      = if n = k ∧ p then x else y := by
  have e : BitVec.ofNat 32 n = BitVec.ofNat 32 k ↔ n = k := by
    constructor
    · intro h
      have h' := congrArg BitVec.toNat h
      simp only [BitVec.toNat_ofNat] at h'
      omega
    · rintro rfl; rfl
  by_cases h : n = k
  · subst h
    by_cases hp : p <;> simp [hp, IntOp.andi, IntOp.cmpi, Scalar.select]
  · have h' : ¬ BitVec.ofNat 32 n = BitVec.ofNat 32 k := fun hh => h (e.mp hh)
    have h2 : (BitVec.ofNat 32 n == BitVec.ofNat 32 k) = false := by simpa using h'
    by_cases hp : p <;> simp [hp, h, h2, IntOp.andi, IntOp.cmpi, Scalar.select]

/-- A row of the scratch times a column of the gate's block is an entry of the gate's product. -/
theorem lin (c : Dev nD) (t : Fin cfg0.N) (v : Vec Ideal S1056x4096 .bf16) (hv : Good m c (t.val / 43) v) (r : Fin 1056) (j : Fin 256)
    (R : ℕ) (hR : R < 16384) (hr : R = srow (t.val / 43) r.val) (C : Fin 11008) (h : C.val = t.val % 43 * 256 + j.val) :
    ∑ x, v (ix2 r x) * iblk m c 3 t (ix2 x j) = A (m ((c : Thread nD τ).loc main_arg0)) (m ((c : Thread nD τ).loc main_arg1)) R C := by
  rw [A, dif_pos hR]
  exact Finset.sum_congr rfl fun x _ => Ideal.mul_congr (hv r x ⟨R, hR⟩ hr) (blk3 m c t x j C h)

/-- The gated product depends on the convolution and the value's product alone. -/
theorem glu_congr {a a' p p' : EReal} (ha : a = a') (hp : p = p') :
    a * Ideal.div 1 (1 + Ideal.exp (0 - a)) * p = a' * Ideal.div 1 (1 + Ideal.exp (-a')) * p' := by
  rw [ha, hp, zero_sub]

/-- What a point stores, over what its scratch holds, is the plain definition's term. -/
theorem core (c : Dev nD) (t : Fin cfg0.N) (v : Vec Ideal S1056x4096 .bf16) (hv : Good m c (t.val / 43) v) (y) :
    k0_pay1 (F := Ideal)
      (k0_pay8 (k0_pay5 v (iblk m c 3 t)) (iota Kind.tc S1024x1 32 [0] iota_S1024x1_d0_w32) (fst t) (lst t) (k0_pay6 v (iblk m c 3 t))
        (k0_pay7 v (iblk m c 3 t)) (iblk m c 5 t) (iblk m c 6 t))
      (k0_pay9 (iblk m c 1 t) (iblk m c 4 t))
      (k0_pay10 (k0_pay5 v (iblk m c 3 t)) (iota Kind.tc S1024x1 32 [0] iota_S1024x1_d0_w32) (fst t) (lst t) (k0_pay6 v (iblk m c 3 t))
        (k0_pay7 v (iblk m c 3 t)) (iblk m c 5 t) (iblk m c 6 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  idx_vars y
  have ht := (idx t).2.2.2.2.2.2.2.2
  have hr : t.val / 43 * 1024 + y0.val < 16384 := by omega
  have hl : t.val % 43 * 256 + y1.val < 11008 := by omega
  have e : ((cfg0.win 7).blk t).view.emb (ix2 y0 y1) = ix2 ⟨t.val / 43 * 1024 + y0.val, hr⟩ ⟨t.val % 43 * 256 + y1.val, hl⟩ := by
    blk_ext [idx t]
  rw [e, REF_read _ _ _ _ _ _ _ ⟨t.val / 344, by omega⟩ ⟨t.val / 43 % 8 * 1024 + y0.val, by omega⟩ (by show t.val / 43 * 1024 + y0.val = t.val / 344 * 8192 + (t.val / 43 % 8 * 1024 + y0.val); omega),
    conv_read, up_read]
  pointwise [k0_pay1, k0_pay5, k0_pay6, k0_pay7, k0_pay8, k0_pay9, k0_pay10]
  rw [(ends t).1, (ends t).2]
  refine glu_congr (Ideal.add_congr (Ideal.add_congr (Ideal.add_congr ?_ (Ideal.mul_congr ?_ ?_)) ?_) ?_) ?_
  · refine (sel y0.val 0 y0.isLt (by omega) _ _ _).trans ?_
    by_cases h : t.val / 43 % 8 * 1024 + y0.val = 0
    · rw [if_pos (by omega), if_pos h, zero_mul]
    · rw [if_neg (by omega), if_neg h]
      exact Ideal.mul_congr (lin m c t v hv _ y1 _ (by omega) (by unfold srow; dsimp only; split_ifs <;> omega) _ rfl) (blk5 m c t 0 y1 _ rfl)
  · exact lin m c t v hv _ y1 _ (by omega) (by unfold srow; dsimp only; split_ifs <;> omega) _ rfl
  · exact blk5 m c t 1 y1 _ rfl
  · refine (sel y0.val 1023 y0.isLt (by omega) _ _ _).trans ?_
    by_cases h : t.val / 43 % 8 * 1024 + y0.val = 8191
    · rw [if_pos (by omega), if_pos h, zero_mul]
    · rw [if_neg (by omega), if_neg h]
      exact Ideal.mul_congr (lin m c t v hv _ y1 _ (by omega) (by unfold srow; dsimp only; split_ifs <;> omega) _ rfl) (blk5 m c t 2 y1 _ rfl)
  · exact blk6 m c t y1 _ rfl
  · have hR : t.val / 344 * 8192 + (t.val / 43 % 8 * 1024 + y0.val) < 16384 := by omega
    rw [A, dif_pos hR]
    exact Finset.sum_congr rfl fun x _ => Ideal.mul_congr (blk1 m c t y0 x _ (by show t.val / 344 * 8192 + (t.val / 43 % 8 * 1024 + y0.val) = _; omega)) (blk4 m c t x y1 _ rfl)

/-- What point `t` stores is the plain definition's term at the place of its block. -/
theorem point (c : Dev nD) (t : Fin cfg0.N) (y) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  by_cases h0 : t.val % 43 = 0
  · rw [outsAt0_A m c t h0]
    frame_out
    rw [View.readCov_eq_canon']
    refine core m c t _ ?_ y
    intro r k R hR
    refine Eq.trans (congrArg _ ?_) (good_A m c t r k R hR)
    funext a
    match a with
    | ⟨0, _⟩ => exact Fin.ext (show 0 + 1 * r.val = r.val by omega)
    | ⟨1, _⟩ => exact Fin.ext (show 0 + 1 * k.val = k.val by omega)
  · rw [outsAt0_B m c t h0]
    frame_out
    rw [read_unread_whole]
    refine core m c t _ ?_ y
    have e : t.val / 43 = (t.val - 1) / 43 := by omega
    rw [e]
    exact good m c _ _

/-- After the run the array of results is the plain definition's term. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact point m c t y

end Cert.Kernel3Ideal.GluValue

end
-- ==== Proof.GluClaim.lean ====
/- The value claim of the gated convolution (Kernel3): the run of the kernel and the run of the plain definition end with equal results. -/
module

public import proofs.«01_k».proof.Defs
public import proofs.«01_k».proof.Proof.GluValue
public import Idealize.ShloMosaic.Lib.Claim
public import Idealize.ShloMosaic.Lib.Quiescent

@[expose] public section

noncomputable section

open Idealize.ShloMosaic Idealize.ShloMosaic.TcCoe Idealize.SL.Sem

namespace Cert.Proof

/-- Over the same arguments the kernel and the plain definition both run and end with equal results and unchanged arguments. -/
theorem value3 : Cert.algebraic_Kernel3Ideal_Reference3Ideal := by
  pair_intro
  · run_from Cert.Kernel3Ideal.Gen.run_main m g
  · hlo_run
    exact (Cert.Kernel3Ideal.GluValue.final m c).symm

/-- The plain definition runs, leaves its arguments as they were and no semaphore raised. -/
theorem frame_R3 : Cert.quiescent_Reference3Ideal := fun m g _ =>
  θ_run_mono (Cert.Reference3Ideal.Value.run m g) fun r h => ⟨fun c => (h c).2, sem_eq_zero_of_no_sems rfl r.2⟩

end Cert.Proof

end
-- ==== Proof.OutValue.lean ====
/- The output projection with its gated residual (Kernel4): what the array of results holds after the run. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.OutValue

open Cert.Kernel4Ideal Cert.Kernel4Ideal.Gen

variable (m : (ℓ : Loc nD τ sig) → Buf (Elt Ideal) ℓ)

/-- The plain definition's term: the residual plus its gate times the product. -/
def REF (A : FVec Ideal S16384x4096 .bf16) (W : FVec Ideal S4096x4096 .f32) (X : FVec Ideal S16384x4096 .f32)
    (M : FVec Ideal S8x24576 .f32) : FVec Ideal S16384x4096 .f32 :=
  shapeCast _ (addf (shapeCast _ X Cert.Reference4Ideal.Gen.shapeCasts_S16384x4096_S2x8192x4096) (mulf (broadcastInDim Cert.Reference4Ideal.S2x8192x4096 ![0, 1, 2] Cert.Reference4Ideal.Gen.bcast_S2x1x4096_S2x8192x4096_0_1_2 (extractStridedSlice Cert.Reference4Ideal.S2x1x4096 ![0, 0, 8192] (broadcastInDim Cert.Reference4Ideal.S2x1x24576 ![0, 2] Cert.Reference4Ideal.Gen.bcast_S2x24576_S2x1x24576_0_2 (extractStridedSlice Cert.Reference4Ideal.S2x24576 ![0, 0] M Cert.Reference4Ideal.Gen.slices_S8x24576_S2x24576_0_0)) Cert.Reference4Ideal.Gen.slices_S2x1x24576_S2x1x4096_0_0_8192)) (Host.dotGeneral (F := Ideal) (φ₁ := .f32) (φ₂ := .f32) Cert.Reference4Ideal.dot_S2x8192x4096_S4096x4096_S2x8192x4096_2_0_01_1_n_n none (shapeCast _ (extf .f32 A Cert.Reference4Ideal.Gen.bitsLt_bf16_f32) Cert.Reference4Ideal.Gen.shapeCasts_S16384x4096_S2x8192x4096) W))) Cert.Reference4Ideal.Gen.shapeCasts_S2x8192x4096_S16384x4096

/-- Each window's block index at every grid point. -/
theorem idx : ∀ t : Fin cfg0.N, win0_0.index t = ![t.val / 8, 0] ∧ win0_1.index t = ![0, t.val % 8]
    ∧ win0_2.index t = ![t.val / 8, t.val % 8] ∧ win0_3.index t = ![t.val / 8 / 8 * 6 + 2, 0, t.val % 8]
    ∧ win0_4.index t = ![t.val / 8, t.val % 8] ∧ t.val / 8 < 16 :=
  (by decide +kernel : ∀ t : Fin grid0.N, _)

/-- A row of the block of the activations is a row of the activations. -/
theorem blk0 (c : Dev nD) (t : Fin cfg0.N) (r : Fin 1024) (k : Fin 4096) (h : t.val / 8 * 1024 + r.val < 16384) :
    iblk m c 0 t (ix2 r k) = m ((c : Thread nD τ).loc main_arg0) (ix2 ⟨t.val / 8 * 1024 + r.val, h⟩ k) := by
  blk_ext [iblk, V, V_main_arg0, idx t]

/-- The weights, cast on the host, are the weights. -/
theorem V_w (c : Dev nD) : V m c main_v1 = (m ((c : Thread nD τ).loc main_arg1) : FVec Ideal S4096x4096 .f32) := by
  entry_read
  funext j
  pointwise

/-- Row `a` of the modulation, split in six on the host: a part of a row of the modulation. -/
theorem V_mod (c : Dev nD) (a : Fin 48) (j : Fin 4096) (h : a.val / 6 < 8) (h' : a.val % 6 * 4096 + j.val < 24576) :
    V m c main_v0 (ix3 a 0 j) = m ((c : Thread nD τ).loc main_arg3) (ix2 ⟨a.val / 6, h⟩ ⟨a.val % 6 * 4096 + j.val, h'⟩) := by
  entry_read
  pointwise

/-- A column of the block of the weights is a column of the weights. -/
theorem blk1 (c : Dev nD) (t : Fin cfg0.N) (k : Fin 4096) (j : Fin 512) (h : t.val % 8 * 512 + j.val < 4096) :
    iblk m c 1 t (ix2 k j) = m ((c : Thread nD τ).loc main_arg1) (ix2 k ⟨t.val % 8 * 512 + j.val, h⟩) := by
  blk_simp [iblk]
  rw [V_w]
  blk_ext [idx t]

/-- The block of the gate is a part of the gate's row of the modulation. -/
theorem blk3 (c : Dev nD) (t : Fin cfg0.N) (j : Fin 512) (h : t.val / 8 / 8 < 8) (h' : 8192 + (t.val % 8 * 512 + j.val) < 24576) :
    iblk m c 3 t (ix3 0 0 j) = m ((c : Thread nD τ).loc main_arg3) (ix2 ⟨t.val / 8 / 8, h⟩ ⟨8192 + (t.val % 8 * 512 + j.val), h'⟩) := by
  have ha : t.val / 8 / 8 * 6 + 2 < 48 := by have := (idx t).2.2.2.2.2; omega
  have hj : t.val % 8 * 512 + j.val < 4096 := by omega
  blk_simp [iblk]
  have e : (win0_3.blk t).view.emb (ix3 0 0 j) = ix3 ⟨t.val / 8 / 8 * 6 + 2, ha⟩ 0 ⟨t.val % 8 * 512 + j.val, hj⟩ := by
    blk_ext [idx t]
  rw [e, V_mod m c _ _ (by show (t.val / 8 / 8 * 6 + 2) / 6 < 8; omega) (by show (t.val / 8 / 8 * 6 + 2) % 6 * 4096 + (t.val % 8 * 512 + j.val) < 24576; omega)]
  blk_ext

/-- What point `t` stores is the plain definition's term at the place of its block. -/
theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  idx_vars y
  have ht := (idx t).2.2.2.2.2
  have hr : t.val / 8 * 1024 + y0.val < 16384 := by omega
  have hl : t.val % 8 * 512 + y1.val < 4096 := by omega
  have e : ((cfg0.win 4).blk t).view.emb (ix2 y0 y1) = ix2 ⟨t.val / 8 * 1024 + y0.val, hr⟩ ⟨t.val % 8 * 512 + y1.val, hl⟩ := by
    blk_ext [idx t]
  rw [e]
  pointwise [k0_pay1, REF]
  refine Ideal.add_congr ?_ (Ideal.mul_congr ?_ (Finset.sum_congr rfl fun k _ => Ideal.mul_congr ?_ ?_))
  · blk_ext [iblk, V, V_main_arg2, idx t]
  · refine (blk3 m c t y1 (by omega) (by omega)).trans ?_
    blk_ext
  · refine (blk0 m c t y0 k hr).trans ?_
    blk_ext
  · exact blk1 m c t k y1 hl

/-- After the run the array of results is the plain definition's term. -/
theorem final (c : Dev nD) : (dats m 0 c).arrAt 4 (cfgs 0).N
    = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Kernel4Ideal.OutValue

end
-- ==== Proof.OutClaim.lean ====
/- The value claim of the output projection (Kernel4): the run of the kernel and the run of the plain definition end with equal results. -/
module

public import proofs.«01_k».proof.Defs
public import proofs.«01_k».proof.Proof.OutValue
public import Idealize.ShloMosaic.Lib.Claim
public import Idealize.ShloMosaic.Lib.Quiescent

@[expose] public section

noncomputable section

open Idealize.ShloMosaic Idealize.ShloMosaic.TcCoe Idealize.SL.Sem

namespace Cert.Proof

/-- Over the same arguments the kernel and the plain definition both run and end with equal results and unchanged arguments. -/
theorem value4 : Cert.algebraic_Kernel4Ideal_Reference4Ideal := by
  pair_intro
  · run_from Cert.Kernel4Ideal.Gen.run_main m g
  · hlo_run
    exact (Cert.Kernel4Ideal.OutValue.final m c).symm

/-- The plain definition runs, leaves its arguments as they were and no semaphore raised. -/
theorem frame_R4 : Cert.quiescent_Reference4Ideal := fun m g _ =>
  θ_run_mono (Cert.Reference4Ideal.Value.run m g) fun r h => ⟨fun c => (h c).2, sem_eq_zero_of_no_sems rfl r.2⟩

end Cert.Proof

end
-- ==== Proof.DownValue.lean ====
/- The down projection of the feed-forward block with its gated residual (Kernel5): what the array of results holds after the run. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.DownValue

open Cert.Kernel5Ideal Cert.Kernel5Ideal.Gen

variable (m : (ℓ : Loc nD τ sig) → Buf (Elt Ideal) ℓ)

/-- The plain definition's term: the residual plus its gate times the product. -/
def REF (A : FVec Ideal S16384x11008 .bf16) (W : FVec Ideal S11008x4096 .f32) (X : FVec Ideal S16384x4096 .f32)
    (M : FVec Ideal S8x24576 .f32) : FVec Ideal S16384x4096 .f32 :=
  shapeCast _ (addf (shapeCast _ X Cert.Reference5Ideal.Gen.shapeCasts_S16384x4096_S2x8192x4096) (mulf (broadcastInDim Cert.Reference5Ideal.S2x8192x4096 ![0, 1, 2] Cert.Reference5Ideal.Gen.bcast_S2x1x4096_S2x8192x4096_0_1_2 (extractStridedSlice Cert.Reference5Ideal.S2x1x4096 ![0, 0, 20480] (broadcastInDim Cert.Reference5Ideal.S2x1x24576 ![0, 2] Cert.Reference5Ideal.Gen.bcast_S2x24576_S2x1x24576_0_2 (extractStridedSlice Cert.Reference5Ideal.S2x24576 ![0, 0] M Cert.Reference5Ideal.Gen.slices_S8x24576_S2x24576_0_0)) Cert.Reference5Ideal.Gen.slices_S2x1x24576_S2x1x4096_0_0_20480)) (Host.dotGeneral (F := Ideal) (φ₁ := .f32) (φ₂ := .f32) Cert.Reference5Ideal.dot_S2x8192x11008_S11008x4096_S2x8192x4096_2_0_01_1_n_n none (shapeCast _ (extf .f32 A Cert.Reference5Ideal.Gen.bitsLt_bf16_f32) Cert.Reference5Ideal.Gen.shapeCasts_S16384x11008_S2x8192x11008) W))) Cert.Reference5Ideal.Gen.shapeCasts_S2x8192x4096_S16384x4096

/-- Each window's block index at every grid point. -/
theorem idx : ∀ t : Fin cfg0.N, win0_0.index t = ![t.val / 16, 0] ∧ win0_1.index t = ![0, t.val % 16]
    ∧ win0_2.index t = ![t.val / 16, t.val % 16] ∧ win0_3.index t = ![t.val / 16 / 16 * 6 + 5, 0, t.val % 16]
    ∧ win0_4.index t = ![t.val / 16, t.val % 16] ∧ t.val / 16 < 32 :=
  (by decide +kernel : ∀ t : Fin grid0.N, _)

/-- A row of the block of the activations is a row of the activations. -/
theorem blk0 (c : Dev nD) (t : Fin cfg0.N) (r : Fin 512) (k : Fin 11008) (h : t.val / 16 * 512 + r.val < 16384) :
    iblk m c 0 t (ix2 r k) = m ((c : Thread nD τ).loc main_arg0) (ix2 ⟨t.val / 16 * 512 + r.val, h⟩ k) := by
  blk_ext [iblk, V, V_main_arg0, idx t]

/-- The weights, cast on the host, are the weights. -/
theorem V_w (c : Dev nD) : V m c main_v1 = (m ((c : Thread nD τ).loc main_arg1) : FVec Ideal S11008x4096 .f32) := by
  entry_read
  funext j
  pointwise

/-- Row `a` of the modulation, split in six on the host: a part of a row of the modulation. -/
theorem V_mod (c : Dev nD) (a : Fin 48) (j : Fin 4096) (h : a.val / 6 < 8) (h' : a.val % 6 * 4096 + j.val < 24576) :
    V m c main_v0 (ix3 a 0 j) = m ((c : Thread nD τ).loc main_arg3) (ix2 ⟨a.val / 6, h⟩ ⟨a.val % 6 * 4096 + j.val, h'⟩) := by
  entry_read
  pointwise

/-- A column of the block of the weights is a column of the weights. -/
theorem blk1 (c : Dev nD) (t : Fin cfg0.N) (k : Fin 11008) (j : Fin 256) (h : t.val % 16 * 256 + j.val < 4096) :
    iblk m c 1 t (ix2 k j) = m ((c : Thread nD τ).loc main_arg1) (ix2 k ⟨t.val % 16 * 256 + j.val, h⟩) := by
  blk_simp [iblk]
  rw [V_w]
  blk_ext [idx t]

/-- The block of the gate is a part of the gate's row of the modulation. -/
theorem blk3 (c : Dev nD) (t : Fin cfg0.N) (j : Fin 256) (h : t.val / 16 / 16 < 8) (h' : 20480 + (t.val % 16 * 256 + j.val) < 24576) :
    iblk m c 3 t (ix3 0 0 j) = m ((c : Thread nD τ).loc main_arg3) (ix2 ⟨t.val / 16 / 16, h⟩ ⟨20480 + (t.val % 16 * 256 + j.val), h'⟩) := by
  have ha : t.val / 16 / 16 * 6 + 5 < 48 := by have := (idx t).2.2.2.2.2; omega
  have hj : t.val % 16 * 256 + j.val < 4096 := by omega
  blk_simp [iblk]
  have e : (win0_3.blk t).view.emb (ix3 0 0 j) = ix3 ⟨t.val / 16 / 16 * 6 + 5, ha⟩ 0 ⟨t.val % 16 * 256 + j.val, hj⟩ := by
    blk_ext [idx t]
  rw [e, V_mod m c _ _ (by show (t.val / 16 / 16 * 6 + 5) / 6 < 8; omega) (by show (t.val / 16 / 16 * 6 + 5) % 6 * 4096 + (t.val % 16 * 256 + j.val) < 24576; omega)]
  blk_ext

/-- What point `t` stores is the plain definition's term at the place of its block. -/
theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  idx_vars y
  have ht := (idx t).2.2.2.2.2
  have hr : t.val / 16 * 512 + y0.val < 16384 := by omega
  have hl : t.val % 16 * 256 + y1.val < 4096 := by omega
  have e : ((cfg0.win 4).blk t).view.emb (ix2 y0 y1) = ix2 ⟨t.val / 16 * 512 + y0.val, hr⟩ ⟨t.val % 16 * 256 + y1.val, hl⟩ := by
    blk_ext [idx t]
  rw [e]
  pointwise [k0_pay1, REF]
  refine Ideal.add_congr ?_ (Ideal.mul_congr ?_ (Finset.sum_congr rfl fun k _ => Ideal.mul_congr ?_ ?_))
  · blk_ext [iblk, V, V_main_arg2, idx t]
  · refine (blk3 m c t y1 (by omega) (by omega)).trans ?_
    blk_ext
  · refine (blk0 m c t y0 k hr).trans ?_
    blk_ext
  · exact blk1 m c t k y1 hl

/-- After the run the array of results is the plain definition's term. -/
theorem final (c : Dev nD) : (dats m 0 c).arrAt 4 (cfgs 0).N
    = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Kernel5Ideal.DownValue

end
-- ==== Proof.DownClaim.lean ====
/- The value claim of the down projection (Kernel5): the run of the kernel and the run of the plain definition end with equal results. -/
module

public import proofs.«01_k».proof.Defs
public import proofs.«01_k».proof.Proof.DownValue
public import Idealize.ShloMosaic.Lib.Claim
public import Idealize.ShloMosaic.Lib.Quiescent

@[expose] public section

noncomputable section

open Idealize.ShloMosaic Idealize.ShloMosaic.TcCoe Idealize.SL.Sem

namespace Cert.Proof

/-- Over the same arguments the kernel and the plain definition both run and end with equal results and unchanged arguments. -/
theorem value5 : Cert.algebraic_Kernel5Ideal_Reference5Ideal := by
  pair_intro
  · run_from Cert.Kernel5Ideal.Gen.run_main m g
  · hlo_run
    exact (Cert.Kernel5Ideal.DownValue.final m c).symm

/-- The plain definition runs, leaves its arguments as they were and no semaphore raised. -/
theorem frame_R5 : Cert.quiescent_Reference5Ideal := fun m g _ =>
  θ_run_mono (Cert.Reference5Ideal.Value.run m g) fun r h => ⟨fun c => (h c).2, sem_eq_zero_of_no_sems rfl r.2⟩

end Cert.Proof

end
-- ==== Proof.NormValue.lean ====
/- The final normalisation (Kernel6): what the array of results holds after the run. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.NormValue

open Cert.Kernel6Ideal Cert.Kernel6Ideal.Gen

variable (m : (ℓ : Loc nD τ sig) → Buf (Elt Ideal) ℓ)

/-- The plain definition's term: each row over the root of its mean square, times the gain. -/
def REF (X : FVec Ideal S2x8192x4096 .f32) (G : FVec Ideal S4096 .f32) : FVec Ideal S16384x4096 .f32 :=
  shapeCast _ (mulf (mulf X (broadcastInDim Cert.Reference6Ideal.S2x8192x4096 ![0, 1, 2] Cert.Reference6Ideal.Gen.bcast_S2x8192x1_S2x8192x4096_0_1_2 (Host.rsqrt (addf (Host.divf (broadcastInDim Cert.Reference6Ideal.S2x8192x1 ![0, 1] Cert.Reference6Ideal.Gen.bcast_S2x8192_S2x8192x1_0_1 (Host.reduceAdd (mulf X X) (constant Cert.Reference6Ideal.S_ .f32 0x00000000#32) Cert.Reference6Ideal.Gen.reducesTo_S2x8192x4096_S2x8192_d2 Cert.Reference6Ideal.Gen.h_S_)) (broadcastInDim Cert.Reference6Ideal.S2x8192x1 ![] Cert.Reference6Ideal.Gen.bcast_S_S2x8192x1 (constant Cert.Reference6Ideal.S_ .f32 0x45800000#32))) (broadcastInDim Cert.Reference6Ideal.S2x8192x1 ![] Cert.Reference6Ideal.Gen.bcast_S_S2x8192x1 (constant Cert.Reference6Ideal.S_ .f32 0x358637BD#32)))))) (broadcastInDim Cert.Reference6Ideal.S2x8192x4096 ![0, 1, 2] Cert.Reference6Ideal.Gen.bcast_S1x1x4096_S2x8192x4096_0_1_2 (broadcastInDim Cert.Reference6Ideal.S1x1x4096 ![2] Cert.Reference6Ideal.Gen.bcast_S4096_S1x1x4096_2 G))) Cert.Reference6Ideal.Gen.shapeCasts_S2x8192x4096_S16384x4096

/-- Each window's block index at every grid point. -/
theorem idx : ∀ t : Fin cfg0.N, win0_0.index t = ![t.val, 0] ∧ win0_1.index t = ![0, 0]
    ∧ win0_2.index t = ![t.val, 0] ∧ t.val < 64 :=
  (by decide +kernel : ∀ t : Fin grid0.N, _)

/-- A row of the block of the rows is a row of the stream. -/
theorem blk0 (c : Dev nD) (t : Fin cfg0.N) (r : Fin 256) (k : Fin 4096) (h : (t.val * 256 + r.val) / 8192 < 2) :
    iblk m c 0 t (ix2 r k) = m ((c : Thread nD τ).loc main_arg0) (ix3 ⟨(t.val * 256 + r.val) / 8192, h⟩ ⟨(t.val * 256 + r.val) % 8192, by omega⟩ k) := by
  blk_simp [iblk]
  entry_read
  pointwise
  blk_ext [idx t]

/-- The block of the gain is the gain. -/
theorem blk1 (c : Dev nD) (t : Fin cfg0.N) (k : Fin 4096) :
    iblk m c 1 t (ix2 0 k) = m ((c : Thread nD τ).loc main_arg1) (ix1 k) := by
  blk_simp [iblk]
  entry_read
  pointwise
  blk_ext [idx t]

/-- What point `t` stores is the plain definition's term at the place of its block. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  idx_vars y
  have ht := (idx t).2.2.2
  have hr : t.val * 256 + y0.val < 16384 := by omega
  have e : ((cfg0.win 2).blk t).view.emb (ix2 y0 y1) = ix2 ⟨t.val * 256 + y0.val, hr⟩ y1 := by
    blk_ext [idx t]
  rw [e]
  pointwise [k0_pay1, REF]
  have hx : ∀ k : Fin 4096, iblk m c 0 t (ix2 y0 k) = m ((c : Thread nD τ).loc main_arg0)
      (ix3 ⟨(t.val * 256 + y0.val) / 8192, by omega⟩ ⟨(t.val * 256 + y0.val) % 8192, by omega⟩ k) :=
    fun k => blk0 m c t y0 k (by omega)
  exact Ideal.mul_congr (Ideal.mul_congr (hx y1) (congrArg (fun s => Ideal.rsqrt (Ideal.div s _ + _))
    (Finset.sum_congr rfl fun k _ => Ideal.mul_congr (hx k) (hx k)))) (blk1 m c t y1)

/-- After the run the array of results is the plain definition's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel6Ideal.NormValue

end
-- ==== Proof.NormClaim.lean ====
/- The value claim of the final normalisation (Kernel6): the run of the kernel and the run of the plain definition end with equal results. -/
module

public import proofs.«01_k».proof.Defs
public import proofs.«01_k».proof.Proof.NormValue
public import Idealize.ShloMosaic.Lib.Claim
public import Idealize.ShloMosaic.Lib.Quiescent

@[expose] public section

noncomputable section

open Idealize.ShloMosaic Idealize.ShloMosaic.TcCoe Idealize.SL.Sem

namespace Cert.Proof

/-- Over the same arguments the kernel and the plain definition both run and end with equal results and unchanged arguments. -/
theorem value6 : Cert.algebraic_Kernel6Ideal_Reference6Ideal := by
  pair_intro
  · run_from Cert.Kernel6Ideal.Gen.run_main m g
  · hlo_run
    exact (Cert.Kernel6Ideal.NormValue.final m c).symm

/-- The plain definition runs, leaves its arguments as they were and no semaphore raised. -/
theorem frame_R6 : Cert.quiescent_Reference6Ideal := fun m g _ =>
  θ_run_mono (Cert.Reference6Ideal.Value.run m g) fun r h => ⟨fun c => (h c).2, sem_eq_zero_of_no_sems rfl r.2⟩

end Cert.Proof

end
-- ==== Proof.InProjRef.lean ====
/- The input projection's reference, read at an entry: the two rotations of each head, and the plain columns. -/
module

public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InProj

open Cert.Reference7Ideal Cert.Reference7Ideal.Gen Cert.Reference7Ideal.Value

variable (U : FVec Ideal S16384x6656 .f32) (cr sr cc sc : FVec Ideal S8192x32 .f32)

/-- Entry `n` of row `R` of the projected columns. -/
def uAt (R : Fin 16384) (n : Nat) : EReal := U (ix2 R ⟨n % 6656, Nat.mod_lt _ (by decide)⟩)

/-- Entry `n` of the table row that belongs to row `R`: the rows of the two sequences share the table. -/
def tAt (t : FVec Ideal S8192x32 .f32) (R : Fin 16384) (n : Nat) : EReal :=
  t (ix2 ⟨R.val % 8192, Nat.mod_lt _ (by decide)⟩ ⟨n % 32, Nat.mod_lt _ (by decide)⟩)

/-- A pair's rotated entry: the first of a pair takes `x cos - x' sin`, the second `x' sin + x cos`. -/
def pairAt (R : Fin 16384) (n : Nat) (c s : FVec Ideal S8192x32 .f32) : EReal :=
  if n % 64 < 32 then uAt U R n * tAt c R n - uAt U R (n + 32) * tAt s R n
  else uAt U R (n - 32) * tAt s R n + uAt U R n * tAt c R n

/-- The rotated entry: the row angles rotate a head's first 64 columns, the column angles its last 64. -/
def rotAt (R : Fin 16384) (n : Nat) : EReal :=
  if n % 128 < 64 then pairAt U R n cr sr else pairAt U R n cc sc

/-- The query columns as heads of 128 columns. -/
def qHeads : FVec Ideal S2x8192x8x128 .f32 := (shapeCast _ (extractStridedSlice S2x8192x1024 ![0, 0, 0] (shapeCast S2x8192x6656 U shapeCasts_S16384x6656_S2x8192x6656) slices_S2x8192x6656_S2x8192x1024_0_0_0) shapeCasts_S2x8192x1024_S2x8192x8x128 : FVec Ideal S2x8192x8x128 .f32)

/-- The rotated query columns: each head's first half by the row angles, its second by the column angles. -/
def qRot : FVec Ideal S16384x1024 .f32 :=
  shapeCast _ (concatenate S2x8192x8x128 3 [⟨S2x8192x8x64, (concatenate S2x8192x8x64 3 [⟨S2x8192x8x32, (subf (mulf (extractStridedSlice S2x8192x8x32 ![0, 0, 0, 0] (extractStridedSlice S2x8192x8x64 ![0, 0, 0, 0] (qHeads U) slices_S2x8192x8x128_S2x8192x8x64_0_0_0_0) slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 cr))) (mulf (extractStridedSlice S2x8192x8x32 ![0, 0, 0, 32] (extractStridedSlice S2x8192x8x64 ![0, 0, 0, 0] (qHeads U) slices_S2x8192x8x128_S2x8192x8x64_0_0_0_0) slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 sr))) : FVec Ideal S2x8192x8x32 .f32)⟩, ⟨S2x8192x8x32, (addf (mulf (extractStridedSlice S2x8192x8x32 ![0, 0, 0, 0] (extractStridedSlice S2x8192x8x64 ![0, 0, 0, 0] (qHeads U) slices_S2x8192x8x128_S2x8192x8x64_0_0_0_0) slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 sr))) (mulf (extractStridedSlice S2x8192x8x32 ![0, 0, 0, 32] (extractStridedSlice S2x8192x8x64 ![0, 0, 0, 0] (qHeads U) slices_S2x8192x8x128_S2x8192x8x64_0_0_0_0) slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 cr))) : FVec Ideal S2x8192x8x32 .f32)⟩] concatenates_S2x8192x8x32_S2x8192x8x32_S2x8192x8x64_d3 : FVec Ideal S2x8192x8x64 .f32)⟩, ⟨S2x8192x8x64, (concatenate S2x8192x8x64 3 [⟨S2x8192x8x32, (subf (mulf (extractStridedSlice S2x8192x8x32 ![0, 0, 0, 0] (extractStridedSlice S2x8192x8x64 ![0, 0, 0, 64] (qHeads U) slices_S2x8192x8x128_S2x8192x8x64_0_0_0_64) slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 cc))) (mulf (extractStridedSlice S2x8192x8x32 ![0, 0, 0, 32] (extractStridedSlice S2x8192x8x64 ![0, 0, 0, 64] (qHeads U) slices_S2x8192x8x128_S2x8192x8x64_0_0_0_64) slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 sc))) : FVec Ideal S2x8192x8x32 .f32)⟩, ⟨S2x8192x8x32, (addf (mulf (extractStridedSlice S2x8192x8x32 ![0, 0, 0, 0] (extractStridedSlice S2x8192x8x64 ![0, 0, 0, 64] (qHeads U) slices_S2x8192x8x128_S2x8192x8x64_0_0_0_64) slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 sc))) (mulf (extractStridedSlice S2x8192x8x32 ![0, 0, 0, 32] (extractStridedSlice S2x8192x8x64 ![0, 0, 0, 64] (qHeads U) slices_S2x8192x8x128_S2x8192x8x64_0_0_0_64) slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 cc))) : FVec Ideal S2x8192x8x32 .f32)⟩] concatenates_S2x8192x8x32_S2x8192x8x32_S2x8192x8x64_d3 : FVec Ideal S2x8192x8x64 .f32)⟩] concatenates_S2x8192x8x64_S2x8192x8x64_S2x8192x8x128_d3) shapeCasts_S2x8192x8x128_S16384x1024

/-- The key columns as heads of 128 columns. -/
def kHeads : FVec Ideal S2x8192x2x128 .f32 := (shapeCast _ (extractStridedSlice S2x8192x256 ![0, 0, 1024] (shapeCast S2x8192x6656 U shapeCasts_S16384x6656_S2x8192x6656) slices_S2x8192x6656_S2x8192x256_0_0_1024) shapeCasts_S2x8192x256_S2x8192x2x128 : FVec Ideal S2x8192x2x128 .f32)

/-- The rotated key columns: each head's first half by the row angles, its second by the column angles. -/
def kRot : FVec Ideal S16384x256 .f32 :=
  shapeCast _ (concatenate S2x8192x2x128 3 [⟨S2x8192x2x64, (concatenate S2x8192x2x64 3 [⟨S2x8192x2x32, (subf (mulf (extractStridedSlice S2x8192x2x32 ![0, 0, 0, 0] (extractStridedSlice S2x8192x2x64 ![0, 0, 0, 0] (kHeads U) slices_S2x8192x2x128_S2x8192x2x64_0_0_0_0) slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 cr))) (mulf (extractStridedSlice S2x8192x2x32 ![0, 0, 0, 32] (extractStridedSlice S2x8192x2x64 ![0, 0, 0, 0] (kHeads U) slices_S2x8192x2x128_S2x8192x2x64_0_0_0_0) slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 sr))) : FVec Ideal S2x8192x2x32 .f32)⟩, ⟨S2x8192x2x32, (addf (mulf (extractStridedSlice S2x8192x2x32 ![0, 0, 0, 0] (extractStridedSlice S2x8192x2x64 ![0, 0, 0, 0] (kHeads U) slices_S2x8192x2x128_S2x8192x2x64_0_0_0_0) slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 sr))) (mulf (extractStridedSlice S2x8192x2x32 ![0, 0, 0, 32] (extractStridedSlice S2x8192x2x64 ![0, 0, 0, 0] (kHeads U) slices_S2x8192x2x128_S2x8192x2x64_0_0_0_0) slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 cr))) : FVec Ideal S2x8192x2x32 .f32)⟩] concatenates_S2x8192x2x32_S2x8192x2x32_S2x8192x2x64_d3 : FVec Ideal S2x8192x2x64 .f32)⟩, ⟨S2x8192x2x64, (concatenate S2x8192x2x64 3 [⟨S2x8192x2x32, (subf (mulf (extractStridedSlice S2x8192x2x32 ![0, 0, 0, 0] (extractStridedSlice S2x8192x2x64 ![0, 0, 0, 64] (kHeads U) slices_S2x8192x2x128_S2x8192x2x64_0_0_0_64) slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 cc))) (mulf (extractStridedSlice S2x8192x2x32 ![0, 0, 0, 32] (extractStridedSlice S2x8192x2x64 ![0, 0, 0, 64] (kHeads U) slices_S2x8192x2x128_S2x8192x2x64_0_0_0_64) slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 sc))) : FVec Ideal S2x8192x2x32 .f32)⟩, ⟨S2x8192x2x32, (addf (mulf (extractStridedSlice S2x8192x2x32 ![0, 0, 0, 0] (extractStridedSlice S2x8192x2x64 ![0, 0, 0, 64] (kHeads U) slices_S2x8192x2x128_S2x8192x2x64_0_0_0_64) slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 sc))) (mulf (extractStridedSlice S2x8192x2x32 ![0, 0, 0, 32] (extractStridedSlice S2x8192x2x64 ![0, 0, 0, 64] (kHeads U) slices_S2x8192x2x128_S2x8192x2x64_0_0_0_64) slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 cc))) : FVec Ideal S2x8192x2x32 .f32)⟩] concatenates_S2x8192x2x32_S2x8192x2x32_S2x8192x2x64_d3 : FVec Ideal S2x8192x2x64 .f32)⟩] concatenates_S2x8192x2x64_S2x8192x2x64_S2x8192x2x128_d3) shapeCasts_S2x8192x2x128_S16384x256

/-- The first result before the cast: the rotated queries, the rotated keys, and the plain columns. -/
def refOut : FVec Ideal S16384x4608 .bf16 :=
  truncf .bf16 (concatenate S16384x4608 1 [⟨S16384x1024, qRot U cr sr cc sc⟩, ⟨S16384x256, kRot U cr sr cc sc⟩,
    ⟨S16384x3328, (extractStridedSlice S16384x3328 ![0, 1280] U slices_S16384x6656_S16384x3328_0_1280 : FVec Ideal S16384x3328 .f32)⟩]
    concatenates_S16384x1024_S16384x256_S16384x3328_S16384x4608_d1 : FVec Ideal S16384x4608 .f32) bitsLt_bf16_f32

/-- The first result is what the reference's run leaves. -/
theorem refOut_eq (V0 : Valuation τ sig (Elt Ideal)) :
    val3 V0 (Proc.devRef .tc main_v133) = refOut (res_main_v5 V0) (Host.cos (res_main_v26 V0)) (Host.sin (res_main_v26 V0))
      (Host.cos (res_main_v50 V0)) (Host.sin (res_main_v50 V0)) :=
  (val3_main_v133 V0).trans rfl

variable {U} in
theorem u_fold {R : Fin 16384} {a : Nat} (h : a < 6656) : U (ix2 R ⟨a, h⟩) = uAt U R a :=
  congrArg U (congrArg (ix2 R) (Fin.ext (Nat.mod_eq_of_lt h).symm))

theorem t_fold {t : FVec Ideal S8192x32 .f32} {R : Fin 16384} {a : Nat} (h' : R.val % 8192 < 8192) (h : a < 32) :
    t (ix2 ⟨R.val % 8192, h'⟩ ⟨a, h⟩) = tAt t R a :=
  congrArg t (congrArg (ix2 _) (Fin.ext (Nat.mod_eq_of_lt h).symm))

theorem t_mod {t : FVec Ideal S8192x32 .f32} {R : Fin 16384} {a b : Nat} (h : a % 32 = b % 32) : tAt t R a = tAt t R b :=
  congrArg t (congrArg (ix2 _) (Fin.ext h))

variable {U} in
theorem sub_pair {R : Fin 16384} {t s : FVec Ideal S8192x32 .f32} {a a' b b' k k' : Nat}
    (e1 : a = a') (e2 : b = b') (e3 : k % 32 = k' % 32) :
    uAt U R a * tAt t R k - uAt U R b * tAt s R k = uAt U R a' * tAt t R k' - uAt U R b' * tAt s R k' := by
  rw [e1, e2, t_mod e3, t_mod e3]

variable {U} in
theorem add_pair {R : Fin 16384} {t s : FVec Ideal S8192x32 .f32} {a a' b b' k k' : Nat}
    (e1 : a = a') (e2 : b = b') (e3 : k % 32 = k' % 32) :
    uAt U R a * tAt t R k + uAt U R b * tAt s R k = uAt U R a' * tAt t R k' + uAt U R b' * tAt s R k' := by
  rw [e1, e2, t_mod e3, t_mod e3]

/-- A rotated query entry. -/
theorem qRot_at (R : Fin 16384) (C : Fin 1024) : qRot U cr sr cc sc (ix2 R C) = rotAt U cr sr cc sc R C.val := by
  unfold qRot qHeads
  pointwise
  simp only [u_fold (U := U), t_fold (t := cr), t_fold (t := sr), t_fold (t := cc), t_fold (t := sc)]
  unfold rotAt pairAt
  obtain ⟨c, hc⟩ := C
  simp only
  by_cases h1 : c % 128 < 64 <;> by_cases h2 : c % 64 < 32
  · have a1 : c % 128 < 32 := by omega
    have a2 : c % 128 < 64 := by omega
    have a3 : c % 64 < 32 := by omega
    simp only [h1, a1, a2, a3, ↓reduceDIte, ↓reduceIte]
    exact sub_pair (by omega) (by omega) (by omega)
  · have a1 : ¬ c % 128 < 32 := by omega
    have a2 : c % 128 < 64 := by omega
    have a3 : ¬ c % 64 < 32 := by omega
    simp only [h1, a1, a2, a3, ↓reduceDIte, ↓reduceIte]
    exact add_pair (by omega) (by omega) (by omega)
  · have a1 : c % 128 - 64 < 32 := by omega
    have a2 : ¬ c % 128 < 64 := by omega
    have a3 : c % 64 < 32 := by omega
    simp only [h1, a1, a2, a3, ↓reduceDIte, ↓reduceIte]
    exact sub_pair (by omega) (by omega) (by omega)
  · have a1 : ¬ c % 128 - 64 < 32 := by omega
    have a2 : ¬ c % 128 < 64 := by omega
    have a3 : ¬ c % 64 < 32 := by omega
    simp only [h1, a1, a2, a3, ↓reduceDIte, ↓reduceIte]
    exact add_pair (by omega) (by omega) (by omega)

/-- A rotated key entry. -/
theorem kRot_at (R : Fin 16384) (C : Fin 256) : kRot U cr sr cc sc (ix2 R C) = rotAt U cr sr cc sc R (1024 + C.val) := by
  unfold kRot kHeads
  pointwise
  simp only [u_fold (U := U), t_fold (t := cr), t_fold (t := sr), t_fold (t := cc), t_fold (t := sc)]
  unfold rotAt pairAt
  obtain ⟨c, hc⟩ := C
  simp only
  by_cases h1 : c % 128 < 64 <;> by_cases h2 : c % 64 < 32
  · have a1 : c % 128 < 32 := by omega
    have a2 : (1024 + c) % 128 < 64 := by omega
    have a3 : (1024 + c) % 64 < 32 := by omega
    simp only [h1, a1, a2, a3, ↓reduceDIte, ↓reduceIte]
    exact sub_pair (by omega) (by omega) (by omega)
  · have a1 : ¬ c % 128 < 32 := by omega
    have a2 : (1024 + c) % 128 < 64 := by omega
    have a3 : ¬ (1024 + c) % 64 < 32 := by omega
    simp only [h1, a1, a2, a3, ↓reduceDIte, ↓reduceIte]
    exact add_pair (by omega) (by omega) (by omega)
  · have a1 : c % 128 - 64 < 32 := by omega
    have a2 : ¬ (1024 + c) % 128 < 64 := by omega
    have a3 : (1024 + c) % 64 < 32 := by omega
    simp only [h1, a1, a2, a3, ↓reduceDIte, ↓reduceIte]
    exact sub_pair (by omega) (by omega) (by omega)
  · have a1 : ¬ c % 128 - 64 < 32 := by omega
    have a2 : ¬ (1024 + c) % 128 < 64 := by omega
    have a3 : ¬ (1024 + c) % 64 < 32 := by omega
    simp only [h1, a1, a2, a3, ↓reduceDIte, ↓reduceIte]
    exact add_pair (by omega) (by omega) (by omega)

/-- An entry of the first result: rotated below column 1280, the projection itself from there on. -/
theorem refOut_at (R : Fin 16384) (C : Fin 4608) : refOut U cr sr cc sc (ix2 R C)
    = if C.val < 1280 then rotAt U cr sr cc sc R C.val else uAt U R C.val := by
  unfold refOut
  pointwise
  obtain ⟨c, hC⟩ := C
  simp only
  by_cases h1 : c < 1024
  · have h2 : c < 1280 := by omega
    simp only [h1, h2, ↓reduceDIte, ↓reduceIte]
    exact qRot_at U cr sr cc sc R ⟨c, h1⟩
  · by_cases h2 : c < 1280
    · have h3 : c - 1024 < 256 := by omega
      simp only [h1, h2, h3, ↓reduceDIte, ↓reduceIte]
      refine (kRot_at U cr sr cc sc R ⟨c - 1024, h3⟩).trans (congrArg (rotAt U cr sr cc sc R) ?_)
      simp only
      omega
    · have h3 : ¬ c - 1024 < 256 := by omega
      simp only [h1, h2, h3, ↓reduceDIte, ↓reduceIte, u_fold (U := U)]
      exact congrArg (uAt U R) (by omega)

/-- An entry of the projection: a row of the input against a column of the weights. -/
theorem v5_at (V0 : Valuation τ sig (Elt Ideal)) (A : FVec Ideal S16384x4096 .bf16) (W : FVec Ideal S4096x23040 .f32)
    (hA : V0 (Proc.devRef .tc main_arg0) = A) (hW : V0 (Proc.devRef .tc main_arg1) = W) (R : Fin 16384) (n : Nat) :
    uAt (res_main_v5 V0) R n = ∑ k : Fin 4096, (A (ix2 R k) * W (ix2 k ⟨n % 6656, by omega⟩) : EReal) := by
  unfold uAt res_main_v5
  rw [hA, hW]
  pointwise

end Cert.InProj

end
-- ==== Proof.InProjRead.lean ====
/- The input projection's host values: the tables of cosines and sines the kernel reads, and its weights. -/
module

public import proofs.«01_k».proof.Proof.InProjBody
public import proofs.«01_k».proof.Proof.InProjRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj

open Cert.Kernel7Ideal Cert.Kernel7Ideal.Gen
open Cert.Reference7Ideal.Value (res_main_v26 res_main_v50)

variable (m : (ℓ : Loc nD τ sig) → Buf (Elt Ideal) ℓ)
variable (V0 : Valuation Cert.Reference7Ideal.τ Cert.Reference7Ideal.sig (Elt Ideal))
variable (X : Valuation τ sig (Elt Ideal))

/-- The host operations before the call, one stretch after another. -/
theorem V_eq (c : Dev nD) (b : Ref sig .tc) :
    V m c b = StableHlo.after hostOps0_4 (StableHlo.after hostOps0_3 (StableHlo.after hostOps0_2
      (StableHlo.after hostOps0_1 (StableHlo.after hostOps0 fun b => m (c, b))))) b := rfl

/-- The weights' leading columns, cast, as the last stretch leaves them. -/
theorem last_w : StableHlo.after hostOps0_4 X (Proc.devRef .tc main_v34) =
    (truncf (F := Ideal) .bf16 (extractStridedSlice S4096x6656 ![0, 0]
      (X (Proc.devRef .tc main_arg1) : FVec Ideal S4096x23040 .f32)
      slices_S4096x23040_S4096x6656_0_0 : FVec Ideal S4096x6656 .f32) bitsLt_bf16_f32 : FVec Ideal S4096x6656 .bf16) := by
  after_results

/-- The last stretch leaves the weights alone. -/
theorem last_arg1 : StableHlo.after hostOps0_4 X (Proc.devRef .tc main_arg1) = X (Proc.devRef .tc main_arg1) := by
  after_results

/-- The weights, their leading columns taken and cast on the host, are those columns of the weights. -/
theorem V_w (c : Dev nD) (k : Fin 4096) (j : Fin 6656) (h : j.val < 23040) :
    V m c main_v34 (ix2 k j) = m ((c : Thread nD τ).loc main_arg1) (ix2 k ⟨j.val, h⟩) := by
  rw [V_eq, last_w]
  pointwise
  have e := V_main_arg1 m c
  rw [V_eq, last_arg1] at e
  exact congrFun e _

/-- The table of cosines: those of the row angles twice, then those of the column angles twice. -/
theorem V_cos (c : Dev nD) : V m c main_v29 =
    (concatenate S8192x128 1 [⟨S8192x32, (Host.cos (res_main_v26 V0) : FVec Ideal S8192x32 .f32)⟩,
      ⟨S8192x32, (Host.cos (res_main_v26 V0) : FVec Ideal S8192x32 .f32)⟩,
      ⟨S8192x32, (Host.cos (res_main_v50 V0) : FVec Ideal S8192x32 .f32)⟩,
      ⟨S8192x32, (Host.cos (res_main_v50 V0) : FVec Ideal S8192x32 .f32)⟩]
      concatenates_S8192x32_S8192x32_S8192x32_S8192x32_S8192x128_d1 : FVec Ideal S8192x128 .f32) := by
  rw [V_eq]
  after_results
  rfl

/-- The table of sines, those of a pair's first column negated. -/
theorem V_sin (c : Dev nD) : V m c main_v32 =
    (concatenate S8192x128 1 [⟨S8192x32, (Host.negf (Host.sin (res_main_v26 V0)) : FVec Ideal S8192x32 .f32)⟩,
      ⟨S8192x32, (Host.sin (res_main_v26 V0) : FVec Ideal S8192x32 .f32)⟩,
      ⟨S8192x32, (Host.negf (Host.sin (res_main_v50 V0)) : FVec Ideal S8192x32 .f32)⟩,
      ⟨S8192x32, (Host.sin (res_main_v50 V0) : FVec Ideal S8192x32 .f32)⟩]
      concatenates_S8192x32_S8192x32_S8192x32_S8192x32_S8192x128_d1 : FVec Ideal S8192x128 .f32) := by
  rw [V_eq]
  after_results
  rfl

/-- An entry of the table of cosines. -/
theorem V_cos_at (c : Dev nD) (r : Fin 8192) (d : Fin 128) (k : Fin 32) (hk : k.val = d.val % 32) :
    (V m c main_v29 (ix2 r d) : EReal) = if d.val < 64 then Host.cos (res_main_v26 V0) (ix2 r k)
      else Host.cos (res_main_v50 V0) (ix2 r k) := by
  rw [V_cos m V0]
  generalize (Host.cos (res_main_v26 V0) : FVec Ideal S8192x32 .f32) = x
  generalize (Host.cos (res_main_v50 V0) : FVec Ideal S8192x32 .f32) = y
  pointwise
  obtain ⟨d, hd⟩ := d
  obtain ⟨k, hk'⟩ := k
  simp only at hk
  simp only
  have at_eq : ∀ (z : FVec Ideal S8192x32 .f32) (a : Nat) (ha : a < 32), a = k → z (ix2 r ⟨a, ha⟩) = z (ix2 r ⟨k, hk'⟩) :=
    fun z a ha e => by subst e; rfl
  by_cases h1 : d < 32
  · have h2 : d < 64 := by omega
    have h3 : d % 64 < 32 := by omega
    simp only [h1, h2, h3, ↓reduceDIte, ↓reduceIte]
    exact at_eq x d h1 (by omega)
  · by_cases h4 : d - 32 < 32
    · have h2 : d < 64 := by omega
      have h3 : ¬ d % 64 < 32 := by omega
      simp only [h1, h2, h3, h4, ↓reduceDIte, ↓reduceIte]
      exact at_eq x (d - 32) h4 (by omega)
    · have h2 : ¬ d < 64 := by omega
      by_cases h5 : d - 32 - 32 < 32
      · have h3 : d % 64 < 32 := by omega
        simp only [h1, h2, h3, h4, h5, ↓reduceDIte, ↓reduceIte]
        exact at_eq y (d - 32 - 32) h5 (by omega)
      · have h3 : ¬ d % 64 < 32 := by omega
        simp only [h1, h2, h3, h4, h5, ↓reduceDIte, ↓reduceIte]
        exact at_eq y (d - 32 - 32 - 32) (by omega) (by omega)

/-- An entry of the table of sines. -/
theorem V_sin_at (c : Dev nD) (r : Fin 8192) (d : Fin 128) (k : Fin 32) (hk : k.val = d.val % 32) :
    (V m c main_v32 (ix2 r d) : EReal) =
      if d.val < 64 then (if d.val % 64 < 32 then -Host.sin (res_main_v26 V0) (ix2 r k) else Host.sin (res_main_v26 V0) (ix2 r k))
      else (if d.val % 64 < 32 then -Host.sin (res_main_v50 V0) (ix2 r k) else Host.sin (res_main_v50 V0) (ix2 r k)) := by
  rw [V_sin m V0]
  generalize (Host.sin (res_main_v26 V0) : FVec Ideal S8192x32 .f32) = x
  generalize (Host.sin (res_main_v50 V0) : FVec Ideal S8192x32 .f32) = y
  pointwise
  obtain ⟨d, hd⟩ := d
  obtain ⟨k, hk'⟩ := k
  simp only at hk
  simp only
  have at_eq : ∀ (z : FVec Ideal S8192x32 .f32) (a : Nat) (ha : a < 32), a = k → z (ix2 r ⟨a, ha⟩) = z (ix2 r ⟨k, hk'⟩) :=
    fun z a ha e => by subst e; rfl
  by_cases h1 : d < 32
  · have h2 : d < 64 := by omega
    have h3 : d % 64 < 32 := by omega
    simp only [h1, h2, h3, ↓reduceDIte, ↓reduceIte]
    exact congrArg (fun z : EReal => -z) (at_eq x d h1 (by omega))
  · by_cases h4 : d - 32 < 32
    · have h2 : d < 64 := by omega
      have h3 : ¬ d % 64 < 32 := by omega
      simp only [h1, h2, h3, h4, ↓reduceDIte, ↓reduceIte]
      exact at_eq x (d - 32) h4 (by omega)
    · have h2 : ¬ d < 64 := by omega
      by_cases h5 : d - 32 - 32 < 32
      · have h3 : d % 64 < 32 := by omega
        simp only [h1, h2, h3, h4, h5, ↓reduceDIte, ↓reduceIte]
        exact congrArg (fun z : EReal => -z) (at_eq y (d - 32 - 32) h5 (by omega))
      · have h3 : ¬ d % 64 < 32 := by omega
        simp only [h1, h2, h3, h4, h5, ↓reduceDIte, ↓reduceIte]
        exact at_eq y (d - 32 - 32 - 32) (by omega) (by omega)

end Cert.InProj

end
-- ==== Proof.InProjValue.lean ====
/- The input projection's tiles, read at an entry, and the three arrays after the run. -/
module

public import proofs.«01_k».proof.Proof.InProjRead

@[expose] public section

set_option maxRecDepth 16384

noncomputable section

open Idealize.ShloMosaic Idealize.ShloMosaic.TcCoe Idealize.SL.Sem
open Idealize.ShloMosaic.Pipeline (Dat)

namespace Cert.InProj

open Cert.Kernel7Ideal Cert.Kernel7Ideal.Gen
open Cert.Reference7Ideal.Value (res_main_v26 res_main_v50 res_main_v5)

variable (m : (ℓ : Loc nD τ sig) → Buf (Elt Ideal) ℓ)
variable (V0 : Valuation Cert.Reference7Ideal.τ Cert.Reference7Ideal.sig (Elt Ideal))

/-- An entry of the product of a tile, its column given as a number. -/
def mm (x0 : Vec Ideal S1024x4096 .bf16) (x1 : Vec Ideal S4096x512 .bf16) (r : Fin 1024) (n : Nat) : EReal :=
  k0_pay1 x0 x1 (ix2 r ⟨n % 512, Nat.mod_lt _ (by decide)⟩)

theorem pay1_at (x0 : Vec Ideal S1024x4096 .bf16) (x1 : Vec Ideal S4096x512 .bf16) (r : Fin 1024) (j : Fin 512) :
    (k0_pay1 x0 x1 (ix2 r j) : EReal) = ∑ k : Fin 4096, (x0 (ix2 r k) * x1 (ix2 k j) : EReal) := by
  pointwise [k0_pay1]

theorem pay3_at (x0 : Vec Ideal S1024x4096 .bf16) (x1 : Vec Ideal S4096x512 .bf16) (r : Fin 1024) (j : Fin 512) :
    (k0_pay3 x0 x1 (ix2 r j) : EReal) = k0_pay1 x0 x1 (ix2 r j) := by
  pointwise [k0_pay3]

/-- A table copied four times along the columns, read at a column. -/
theorem lane (x : Vec Ideal S1024x128 .f32) (r : Fin 1024) (j : Nat) (hj : j < 512) (hl : j - 128 - 128 - 128 < 128) :
    (if h : j < 128 then x (ix2 r ⟨j, h⟩)
      else if h : j - 128 < 128 then x (ix2 r ⟨j - 128, h⟩)
        else if h : j - 128 - 128 < 128 then x (ix2 r ⟨j - 128 - 128, h⟩)
          else x (ix2 r ⟨j - 128 - 128 - 128, hl⟩)) = x (ix2 r ⟨j % 128, Nat.mod_lt _ (by decide)⟩) := by
  have col : ∀ (a b : Nat) (ha : a < 128) (hb : b < 128), a = b → x (ix2 r ⟨a, ha⟩) = x (ix2 r ⟨b, hb⟩) :=
    fun a b ha hb e => by subst e; rfl
  by_cases h1 : j < 128
  · rw [dif_pos h1]; exact col _ _ _ _ (by omega)
  · rw [dif_neg h1]
    by_cases h2 : j - 128 < 128
    · rw [dif_pos h2]; exact col _ _ _ _ (by omega)
    · rw [dif_neg h2]
      by_cases h3 : j - 128 - 128 < 128
      · rw [dif_pos h3]; exact col _ _ _ _ (by omega)
      · rw [dif_neg h3]; exact col _ _ _ _ (by omega)

/-- The bit of a lane that tells which column of a pair it is. -/
theorem lane_word : ∀ j : Fin 512, (IntOp.andi (BitVec.ofNat 32 j.val) 32#32).toNat = 0 ↔ j.val % 64 < 32 := by
  decide +kernel

/-- The comparison of a column with the end of the keys. -/
theorem sel_word : ∀ (n : Fin 3) (j : Fin 512),
    IntOp.cmpi CmpIPredicate.slt (IntOp.addi (Scalar.muli (BitVec.ofNat 32 n.val) 512#32) (BitVec.ofNat 32 j.val)) 1280#32
      = if 512 * n.val + j.val < 1280 then 1#1 else 0#1 := by
  decide +kernel

/-- The tile of queries and keys at an entry. -/
theorem pay2_at (i : grid0.Coords) (hi : (i 1).val ≤ 2) (x0 : Vec Ideal S1024x4096 .bf16) (x1 : Vec Ideal S4096x512 .bf16)
    (x2 x3 : Vec Ideal S1024x128 .f32) (r : Fin 1024) (j : Fin 512) :
    (k0_pay2 i x0 x1 x2 x3 (ix2 r j) : EReal) = if 512 * (i 1).val + j.val < 1280 then
        mm x0 x1 r j.val * x2 (ix2 r ⟨j.val % 128, Nat.mod_lt _ (by decide)⟩)
          + (if j.val % 64 < 32 then mm x0 x1 r (j.val + 32) else mm x0 x1 r (j.val - 32)) * x3 (ix2 r ⟨j.val % 128, Nat.mod_lt _ (by decide)⟩)
      else mm x0 x1 r j.val := by
  unfold k0_pay2 mm
  generalize k0_pay1 x0 x1 = P
  pointwise [hlo_ix]
  rw [lane x2 r j.val j.isLt (by omega), lane x3 r j.val j.isLt (by omega), sel_word ⟨(i 1).val, by omega⟩ j]
  have hj : j.val % 512 = j.val := Nat.mod_eq_of_lt j.isLt
  have col : ∀ (a b : Nat) (ha : a < 512) (hb : b < 512), a = b → P (ix2 r ⟨a, ha⟩) = P (ix2 r ⟨b, hb⟩) :=
    fun a b ha hb e => by subst e; rfl
  by_cases h : 512 * (i 1).val + j.val < 1280
  · simp only [h, ↓reduceIte]
    refine Ideal.add_congr (Ideal.mul_congr (col _ _ _ _ hj.symm) rfl) (Ideal.mul_congr ?_ rfl)
    have hl := lane_word j
    by_cases h' : j.val % 64 < 32
    · rw [if_pos (hl.mpr h'), if_pos h']
      exact col _ _ _ _ (by omega)
    · rw [if_neg (fun e => h' (hl.mp e)), if_neg h']
      exact col _ _ _ _ (by omega)
  · simp only [h, ↓reduceIte]
    exact col _ _ _ _ hj.symm

/-- Each window's block index at every grid point. -/
theorem idx : ∀ t : Fin cfg0.N, win0_0.index t = ![t.val / 13, 0] ∧ win0_1.index t = ![0, t.val % 13]
    ∧ win0_2.index t = ![t.val / 13 % 8, 0] ∧ win0_3.index t = ![t.val / 13 % 8, 0]
    ∧ win0_4.index t = ![t.val / 13, min (t.val % 13) 8] ∧ win0_5.index t = ![t.val / 13, max 9 (min (t.val % 13) 10) - 9]
    ∧ win0_6.index t = ![t.val / 13, max 11 (t.val % 13) - 11] ∧ t.val / 13 < 16 ∧ (grid0.coords t 1).val = t.val % 13 :=
  (by decide +kernel : ∀ t : Fin grid0.N, _)

/-- A row of the block of the input is a row of the input. -/
theorem blk0 (c : Dev nD) (t : Fin cfg0.N) (r : Fin 1024) (k : Fin 4096) (R : Fin 16384) (h : R.val = t.val / 13 * 1024 + r.val) :
    iblk m c 0 t (ix2 r k) = m ((c : Thread nD τ).loc main_arg0) (ix2 R k) := by
  blk_ext [iblk, V, V_main_arg0, idx t]

/-- A column of the block of the weights is a column of the weights. -/
theorem blk1 (c : Dev nD) (t : Fin cfg0.N) (k : Fin 4096) (j : Fin 512) (C : Fin 23040) (h : C.val = t.val % 13 * 512 + j.val) :
    iblk m c 1 t (ix2 k j) = m ((c : Thread nD τ).loc main_arg1) (ix2 k C) := by
  have hj : t.val % 13 * 512 + j.val < 6656 := by omega
  blk_simp [iblk]
  have e : (win0_1.blk t).view.emb (ix2 k j) = ix2 k ⟨t.val % 13 * 512 + j.val, hj⟩ := by
    blk_ext [idx t]
  rw [e, V_w m c k _ (by show t.val % 13 * 512 + j.val < 23040; omega)]
  exact congrArg _ (congrArg (ix2 k) (Fin.ext h.symm))

/-- An entry of the block of a table is an entry of the table. -/
theorem blk2 (c : Dev nD) (t : Fin cfg0.N) (r : Fin 1024) (d : Fin 128) (R : Fin 8192) (h : R.val = t.val / 13 % 8 * 1024 + r.val) :
    iblk m c 2 t (ix2 r d) = V m c main_v29 (ix2 R d) := by
  blk_simp [iblk]
  refine congrArg (V m c main_v29) ?_
  blk_ext [idx t]

theorem blk3 (c : Dev nD) (t : Fin cfg0.N) (r : Fin 1024) (d : Fin 128) (R : Fin 8192) (h : R.val = t.val / 13 % 8 * 1024 + r.val) :
    iblk m c 3 t (ix2 r d) = V m c main_v32 (ix2 R d) := by
  blk_simp [iblk]
  refine congrArg (V m c main_v32) ?_
  blk_ext [idx t]

section Points

variable (c : Dev nD)
variable (hA : V0 (Proc.devRef .tc Cert.Reference7Ideal.main_arg0) = (m ((c : Thread nD τ).loc main_arg0) : FVec Ideal S16384x4096 .bf16))
variable (hW : V0 (Proc.devRef .tc Cert.Reference7Ideal.main_arg1) = (m ((c : Thread nD τ).loc main_arg1) : FVec Ideal S4096x23040 .f32))

/-- The reference's projection, and the cosines and sines of its row and column angles. -/
abbrev UU : FVec Ideal Cert.Reference7Ideal.S16384x6656 .f32 := res_main_v5 V0
abbrev CR : FVec Ideal S8192x32 .f32 := Host.cos (res_main_v26 V0)
abbrev SR : FVec Ideal S8192x32 .f32 := Host.sin (res_main_v26 V0)
abbrev CC : FVec Ideal S8192x32 .f32 := Host.cos (res_main_v50 V0)
abbrev SC : FVec Ideal S8192x32 .f32 := Host.sin (res_main_v50 V0)

include hA hW in
/-- The product of a point's blocks is an entry of the projection. -/
theorem mm_at (t : Fin cfg0.N) (r : Fin 1024) (n : Nat) (hn : n < 512) (R : Fin 16384) (hR : R.val = t.val / 13 * 1024 + r.val) :
    mm (iblk m c 0 t) (iblk m c 1 t) r n = uAt (UU V0) R (t.val % 13 * 512 + n) := by
  rw [v5_at V0 _ _ hA hW]
  unfold mm
  rw [pay1_at]
  refine Finset.sum_congr rfl fun k _ => Ideal.mul_congr (blk0 m c t r k R hR) (blk1 m c t k _ _ ?_)
  simp only
  omega

include hA hW in
/-- A point's product, stored as it is. -/
theorem plain_at (t : Fin cfg0.N) (r : Fin 1024) (j : Fin 512) (R : Fin 16384) (hR : R.val = t.val / 13 * 1024 + r.val) :
    (k0_pay1 (iblk m c 0 t) (iblk m c 1 t) (ix2 r j) : EReal) = uAt (UU V0) R (t.val % 13 * 512 + j.val) := by
  refine Eq.trans ?_ (mm_at m V0 c hA hW t r j.val j.isLt R hR)
  unfold mm
  exact congrArg _ (congrArg (ix2 r) (Fin.ext (Nat.mod_eq_of_lt j.isLt).symm))

/-- An entry of a point's block of cosines. -/
theorem cos_at (t : Fin cfg0.N) (r : Fin 1024) (d : Fin 128) (R : Fin 16384) (hR : R.val = t.val / 13 * 1024 + r.val) (n : Nat)
    (hn : n % 128 = d.val) :
    (iblk m c 2 t (ix2 r d) : EReal) = if n % 128 < 64 then tAt (CR V0) R n else tAt (CC V0) R n := by
  have h := (idx t).2.2.2.2.2.2.2.1
  rw [blk2 m c t r d ⟨R.val % 8192, Nat.mod_lt _ (by decide)⟩ (by simp only; omega),
    V_cos_at m V0 c _ d ⟨n % 32, Nat.mod_lt _ (by decide)⟩ (by simp only; omega), hn]
  rfl

/-- An entry of a point's block of sines. -/
theorem sin_at (t : Fin cfg0.N) (r : Fin 1024) (d : Fin 128) (R : Fin 16384) (hR : R.val = t.val / 13 * 1024 + r.val) (n : Nat)
    (hn : n % 128 = d.val) :
    (iblk m c 3 t (ix2 r d) : EReal) = if n % 128 < 64 then (if n % 64 < 32 then -tAt (SR V0) R n else tAt (SR V0) R n)
      else (if n % 64 < 32 then -tAt (SC V0) R n else tAt (SC V0) R n) := by
  have h := (idx t).2.2.2.2.2.2.2.1
  have h64 : n % 64 = d.val % 64 := by omega
  rw [blk3 m c t r d ⟨R.val % 8192, Nat.mod_lt _ (by decide)⟩ (by simp only; omega),
    V_sin_at m V0 c _ d ⟨n % 32, Nat.mod_lt _ (by decide)⟩ (by simp only; omega), hn, h64]
  rfl

include hA hW in
/-- A point's rotated pair is the plain definition's. -/
theorem pair_at (t : Fin cfg0.N) (r : Fin 1024) (j : Fin 512) (R : Fin 16384) (hR : R.val = t.val / 13 * 1024 + r.val)
    (x y : FVec Ideal S8192x32 .f32) :
    mm (iblk m c 0 t) (iblk m c 1 t) r j.val * tAt x R (t.val % 13 * 512 + j.val)
      + (if j.val % 64 < 32 then mm (iblk m c 0 t) (iblk m c 1 t) r (j.val + 32) else mm (iblk m c 0 t) (iblk m c 1 t) r (j.val - 32))
        * (if (t.val % 13 * 512 + j.val) % 64 < 32 then -tAt y R (t.val % 13 * 512 + j.val) else tAt y R (t.val % 13 * 512 + j.val))
      = pairAt (UU V0) R (t.val % 13 * 512 + j.val) x y := by
  have hj := j.isLt
  unfold pairAt
  rw [mm_at m V0 c hA hW t r j.val hj R hR]
  by_cases h : j.val % 64 < 32
  · have h' : (t.val % 13 * 512 + j.val) % 64 < 32 := by omega
    rw [if_pos h, if_pos h', if_pos h', mm_at m V0 c hA hW t r (j.val + 32) (by omega) R hR, mul_neg, ← sub_eq_add_neg, ← Nat.add_assoc]
  · have h' : ¬ (t.val % 13 * 512 + j.val) % 64 < 32 := by omega
    have e : t.val % 13 * 512 + j.val - 32 = t.val % 13 * 512 + (j.val - 32) := by omega
    rw [if_neg h, if_neg h', if_neg h', mm_at m V0 c hA hW t r (j.val - 32) (by omega) R hR, e, add_comm]

include hA hW in
/-- A tile of queries and keys is the plain definition's. -/
theorem rot_point (t : Fin cfg0.N) (ht : t.val % 13 ≤ 2) (r : Fin 1024) (j : Fin 512) (R : Fin 16384)
    (hR : R.val = t.val / 13 * 1024 + r.val) :
    (k0_pay2 (grid0.coords t) (iblk m c 0 t) (iblk m c 1 t) (iblk m c 2 t) (iblk m c 3 t) (ix2 r j) : EReal)
      = if t.val % 13 * 512 + j.val < 1280 then rotAt (UU V0) (CR V0) (SR V0) (CC V0) (SC V0) R (t.val % 13 * 512 + j.val)
        else uAt (UU V0) R (t.val % 13 * 512 + j.val) := by
  have hc := (idx t).2.2.2.2.2.2.2.2
  have hj := j.isLt
  rw [pay2_at _ (by omega), hc, Nat.mul_comm 512]
  by_cases h : t.val % 13 * 512 + j.val < 1280
  · rw [if_pos h, if_pos h, cos_at m V0 c t r _ R hR (t.val % 13 * 512 + j.val) (by simp only; omega),
      sin_at m V0 c t r _ R hR (t.val % 13 * 512 + j.val) (by simp only; omega)]
    unfold rotAt
    by_cases h' : (t.val % 13 * 512 + j.val) % 128 < 64
    · rw [if_pos h', if_pos h', if_pos h']
      exact pair_at m V0 c hA hW t r j R hR (CR V0) (SR V0)
    · rw [if_neg h', if_neg h', if_neg h']
      exact pair_at m V0 c hA hW t r j R hR (CC V0) (SC V0)
  · rw [if_neg h, if_neg h]
    exact mm_at m V0 c hA hW t r j.val hj R hR

include hA hW in
/-- After the run the first array is the plain definition's first result. -/
theorem final4 : ((dats m 0 c).arrAt 4 (cfgs 0).N : FVec Ideal S16384x4608 .bf16)
    = refOut (UU V0) (CR V0) (SR V0) (CC V0) (SC V0) := by
  refine (dats m 0 c).arrAt_eq_of_covers 4 _ (by decide +kernel) fun t hf y => ?_
  have hf' : t.val % 13 ≤ 7 ∨ t.val % 13 = 12 := of_decide_eq_true ((flush4 t).symm.trans hf)
  blk_simp
  rw [after_4]
  idx_vars y
  have ht := (idx t).2.2.2.2.2.2.2.1
  have hr : t.val / 13 * 1024 + y0.val < 16384 := by omega
  have hl : min (t.val % 13) 8 * 512 + y1.val < 4608 := by omega
  have e : ((cfg0.win 4).blk t).view.emb (ix2 y0 y1) = ix2 ⟨t.val / 13 * 1024 + y0.val, hr⟩ ⟨min (t.val % 13) 8 * 512 + y1.val, hl⟩ := by
    blk_ext [idx t]
  rw [e, refOut_at]
  unfold after4
  by_cases h : t.val % 13 ≤ 2
  · rw [if_pos h]
    unfold outA
    frame_out
    have hm : min (t.val % 13) 8 = t.val % 13 := by omega
    simp only [hm]
    exact rot_point m V0 c hA hW t h y0 y1 _ rfl
  · rw [if_neg h]
    unfold outB
    frame_out
    have h13 : (clamp 0 8 (by decide) (by decide) t).val / 13 = t.val / 13 := by simp only [clamp]; omega
    have h14 : (clamp 0 8 (by decide) (by decide) t).val % 13 = min (t.val % 13) 8 := by simp only [clamp]; omega
    have hm : ¬ min (t.val % 13) 8 * 512 + y1.val < 1280 := by omega
    rw [if_neg hm, pay3_at]
    refine (plain_at m V0 c hA hW (clamp 0 8 (by decide) (by decide) t) y0 y1 ⟨t.val / 13 * 1024 + y0.val, hr⟩ (by rw [h13])).trans ?_
    rw [h14]

include hA hW in
/-- After the run the second array is the plain definition's second result. -/
theorem final5 : ((dats m 0 c).arrAt 5 (cfgs 0).N : FVec Ideal S16384x1024 .f32)
    = extractStridedSlice Cert.Reference7Ideal.S16384x1024 ![0, 4608] (UU V0) Cert.Reference7Ideal.Gen.slices_S16384x6656_S16384x1024_0_4608 := by
  refine (dats m 0 c).arrAt_eq_of_covers 5 _ (by decide +kernel) fun t hf y => ?_
  blk_simp
  rw [after_5]
  idx_vars y
  have ht := (idx t).2.2.2.2.2.2.2.1
  have hr : t.val / 13 * 1024 + y0.val < 16384 := by omega
  have hl : (max 9 (min (t.val % 13) 10) - 9) * 512 + y1.val < 1024 := by omega
  have e : ((cfg0.win 5).blk t).view.emb (ix2 y0 y1) = ix2 ⟨t.val / 13 * 1024 + y0.val, hr⟩ ⟨(max 9 (min (t.val % 13) 10) - 9) * 512 + y1.val, hl⟩ := by
    blk_ext [idx t]
  rw [e]
  unfold after5 outC
  frame_out
  have h13 : (clamp 9 10 (by decide) (by decide) t).val / 13 = t.val / 13 := by simp only [clamp]; omega
  have h14 : (clamp 9 10 (by decide) (by decide) t).val % 13 = max 9 (min (t.val % 13) 10) := by simp only [clamp]; omega
  refine (plain_at m V0 c hA hW (clamp 9 10 (by decide) (by decide) t) y0 y1 ⟨t.val / 13 * 1024 + y0.val, hr⟩ (by rw [h13])).trans ?_
  rw [h14]
  pointwise
  rw [u_fold (U := UU V0)]
  exact congrArg (uAt (UU V0) _) (by omega)

include hA hW in
/-- After the run the third array is the plain definition's third result. -/
theorem final6 : ((dats m 0 c).arrAt 6 (cfgs 0).N : FVec Ideal S16384x1024 .f32)
    = extractStridedSlice Cert.Reference7Ideal.S16384x1024 ![0, 5632] (UU V0) Cert.Reference7Ideal.Gen.slices_S16384x6656_S16384x1024_0_5632 := by
  refine (dats m 0 c).arrAt_eq_of_covers 6 _ (by decide +kernel) fun t hf y => ?_
  have hf' : 11 ≤ t.val % 13 := of_decide_eq_true ((flush6 t).symm.trans hf)
  blk_simp
  rw [after_6]
  idx_vars y
  have ht := (idx t).2.2.2.2.2.2.2.1
  have hr : t.val / 13 * 1024 + y0.val < 16384 := by omega
  have hl : (max 11 (t.val % 13) - 11) * 512 + y1.val < 1024 := by omega
  have e : ((cfg0.win 6).blk t).view.emb (ix2 y0 y1) = ix2 ⟨t.val / 13 * 1024 + y0.val, hr⟩ ⟨(max 11 (t.val % 13) - 11) * 512 + y1.val, hl⟩ := by
    blk_ext [idx t]
  rw [e]
  unfold after6 outC
  frame_out
  refine (plain_at m V0 c hA hW t y0 y1 ⟨t.val / 13 * 1024 + y0.val, hr⟩ rfl).trans ?_
  pointwise
  rw [u_fold (U := UU V0)]
  exact congrArg (uAt (UU V0) _) (by omega)

end Points

end Cert.InProj

end
-- ==== Proof.InProjClaim.lean ====
/- The value claim of the input projection (Kernel7): the run of the kernel and the run of the plain definition end with equal results. -/
module

public import proofs.«01_k».proof.Defs
public import proofs.«01_k».proof.Proof.InProjValue
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.StableHlo (launchContents)

namespace Cert.Proof

section Kernel
open Cert.Kernel7Ideal Cert.Kernel7Ideal.Gen

/-- The kernel's run, its three arrays read and its arguments unchanged. -/
theorem run_K7 (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35_0) = (Cert.InProj.dats m 0 c).arrAt 4 (cfgs 0).N
      ∧ r.2.mem ((c.tc : Thread nD τ).loc main_v35_1) = (Cert.InProj.dats m 0 c).arrAt 5 (cfgs 0).N
      ∧ r.2.mem ((c.tc : Thread nD τ).loc main_v35_2) = (Cert.InProj.dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (Cert.InProj.run_quiescent m ρ) (Cert.InProj.frame_K m ρ)) fun r h c =>
    ⟨(h.1.1 c).1 4, (h.1.1 c).1 5, (h.1.1 c).1 6, h.2.1 c⟩

end Kernel

section Plain
open Cert.Reference7Ideal Cert.Reference7Ideal.Gen Cert.Reference7Ideal.Value

/-- The plain definition's run, its results in the folded form the kernel's arrays are compared with. -/
theorem run_R7 (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v133) = Cert.InProj.refOut (res_main_v5 (launchContents m c))
        (Host.cos (res_main_v26 (launchContents m c))) (Host.sin (res_main_v26 (launchContents m c)))
        (Host.cos (res_main_v50 (launchContents m c))) (Host.sin (res_main_v50 (launchContents m c)))
      ∧ r.2.mem ((c.tc : Thread nD τ).loc main_v134) = extractStridedSlice S16384x1024 ![0, 4608] (res_main_v5 (launchContents m c)) slices_S16384x6656_S16384x1024_0_4608
      ∧ r.2.mem ((c.tc : Thread nD τ).loc main_v135) = extractStridedSlice S16384x1024 ![0, 5632] (res_main_v5 (launchContents m c)) slices_S16384x6656_S16384x1024_0_5632
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (Cert.Reference7Ideal.Value.run m ρ) fun r h c =>
    ⟨(h c).1.trans ((val3_main_v133 (launchContents m c)).symm.trans (Cert.InProj.refOut_eq (launchContents m c))), (h c).2⟩

end Plain

/-- Over the same arguments the kernel and the plain definition both run and end with equal results and unchanged arguments. -/
theorem value7 : Cert.algebraic_Kernel7Ideal_Reference7Ideal := by
  intro m g m' g' _ hagree
  refine ⟨fun c => (Cert.InProj.dats m 0 c).arrAt 4 (Cert.Kernel7Ideal.cfgs 0).N,
    fun c => (Cert.InProj.dats m 0 c).arrAt 5 (Cert.Kernel7Ideal.cfgs 0).N,
    fun c => (Cert.InProj.dats m 0 c).arrAt 6 (Cert.Kernel7Ideal.cfgs 0).N,
    run_K7 m g, θ_run_mono (run_R7 m' g') fun r h c => ?_⟩
  have hA : launchContents m' c (Proc.devRef .tc Cert.Reference7Ideal.main_arg0) = _ := (hagree c).1
  have hW : launchContents m' c (Proc.devRef .tc Cert.Reference7Ideal.main_arg1) = _ := (hagree c).2
  refine ⟨(h c).1.trans ?_, (h c).2.1.trans ?_, (h c).2.2.1.trans ?_, (h c).2.2.2⟩
  · exact (Cert.InProj.final4 m (launchContents m' c) c hA hW).symm
  · exact (Cert.InProj.final5 m (launchContents m' c) c hA hW).symm
  · exact (Cert.InProj.final6 m (launchContents m' c) c hA hW).symm

/-- The plain definition runs, leaves its arguments as they were and no semaphore raised. -/
theorem frame_R7 : Cert.quiescent_Reference7Ideal := fun m g _ =>
  θ_run_mono (Cert.Reference7Ideal.Value.run m g) fun r h => ⟨fun c => (h c).2.2.2, sem_eq_zero_of_no_sems rfl r.2⟩

end Cert.Proof

end
-- ==== Proof.lean ====
/- The proof of the certificate: each program runs and keeps its arguments, and each kernel's result over the extended reals is its plain definition's. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite
public import proofs.«01_k».proof.Proof.InProjPlain
public import proofs.«01_k».proof.Proof.InProjBody
public import proofs.«01_k».proof.Proof.WindowClaim
public import proofs.«01_k».proof.Proof.MergeClaim
public import proofs.«01_k».proof.Proof.GluClaim
public import proofs.«01_k».proof.Proof.OutClaim
public import proofs.«01_k».proof.Proof.DownClaim
public import proofs.«01_k».proof.Proof.NormClaim
public import proofs.«01_k».proof.Proof.InProjClaim
public import Idealize.ShloMosaic.Lib.Claim

@[expose] public section

noncomputable section

namespace Cert.Proof

open Idealize.ShloMosaic Idealize.SL.Sem

/-- Everything the certificate states. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    frame_R,
    frame_R_finite,
    fun m ρ _ => Cert.Kernel2.Gen.frame m ρ,
    fun m ρ _ => Cert.Kernel2Ideal.Gen.frame m ρ,
    frame_R2,
    fun m ρ _ => Cert.Kernel3.Gen.frame m ρ,
    fun m ρ _ => Cert.Kernel3Ideal.Gen.frame m ρ,
    frame_R3,
    fun m ρ _ => Cert.Kernel4.Gen.frame m ρ,
    fun m ρ _ => Cert.Kernel4Ideal.Gen.frame m ρ,
    frame_R4,
    fun m ρ _ => Cert.Kernel5.Gen.frame m ρ,
    fun m ρ _ => Cert.Kernel5Ideal.Gen.frame m ρ,
    frame_R5,
    fun m ρ _ => Cert.Kernel6.Gen.frame m ρ,
    fun m ρ _ => Cert.Kernel6Ideal.Gen.frame m ρ,
    frame_R6,
    fun m ρ _ => Cert.InProjPlain.frame_K m ρ,
    fun m ρ _ => Cert.InProj.frame_K m ρ,
    frame_R7,
    trivial,
    value,
    trivial,
    value2,
    trivial,
    value3,
    trivial,
    value4,
    trivial,
    value5,
    trivial,
    value6,
    trivial,
    value7⟩

end Cert.Proof

end
